-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![4096, 4096]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 8192]⟩ ⟨2, ![4096, 8192]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S4096x8192 : Shape := ⟨2, ![4096, 8192]⟩
abbrev S1 : Shape := ⟨1, ![1]⟩
abbrev S1024x8192 : Shape := ⟨2, ![1024, 8192]⟩
abbrev S4096x512 : Shape := ⟨2, ![4096, 512]⟩
abbrev S1024x512 : Shape := ⟨2, ![1024, 512]⟩
abbrev S4x1024x1024 : Shape := ⟨3, ![4, 1024, 1024]⟩
abbrev S4 : Shape := ⟨1, ![4]⟩
abbrev S_ : Shape := ⟨0, ![]⟩
abbrev S1x1024x1024 : Shape := ⟨3, ![1, 1024, 1024]⟩
abbrev S1024x1024 : Shape := ⟨2, ![1024, 1024]⟩

abbrev nBuf : Space → Nat
  | .hbm => 5
  | .vmem => 7
  | .smem => 2
  | _ => 0

abbrev bufTy : (tb : Table) → Fin (tcTables nBuf tb) → BufTy
  | .hbm, ⟨0, _⟩ => ⟨S4096x1024, .fp8e5m2⟩
  | .hbm, ⟨1, _⟩ => ⟨S4096x8192, .fp8e5m2⟩
  | .hbm, ⟨2, _⟩ => ⟨S1, .f32⟩
  | .hbm, ⟨3, _⟩ => ⟨S1, .f32⟩
  | .hbm, ⟨4, _⟩ => ⟨S1024x8192, .f32⟩
  | .local _ .vmem, ⟨0, _⟩ => ⟨S4096x1024, .fp8e5m2⟩
  | .local _ .vmem, ⟨1, _⟩ => ⟨S4096x512, .fp8e5m2⟩
  | .local _ .vmem, ⟨2, _⟩ => ⟨S4096x512, .fp8e5m2⟩
  | .local _ .vmem, ⟨3, _⟩ => ⟨S1024x512, .f32⟩
  | .local _ .vmem, ⟨4, _⟩ => ⟨S1024x512, .f32⟩
  | .local _ .vmem, ⟨5, _⟩ => ⟨S4096x1024, .fp8e5m2⟩
  | .local _ .vmem, ⟨6, _⟩ => ⟨S4x1024x1024, .fp8e5m2⟩
  | .local _ .smem, ⟨0, _⟩ => ⟨S1, .f32⟩
  | .local _ .smem, ⟨1, _⟩ => ⟨S1, .f32⟩
  | _, _ => ⟨S4096x1024, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | .smem, ⟨1, _⟩ => true
  | _, _ => false

abbrev semScoped : Fin 1 → Bool
  | ⟨0, _⟩ => false
  | _ => false

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  (ofTc nBuf bufTy 1 15 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg4_0 : Ref sig .tc := ⟨.vmem, 3, rfl⟩
abbrev cc0_stg4_1 : Ref sig .tc := ⟨.vmem, 4, rfl⟩
abbrev cc0_scratch0 : Ref sig .tc := ⟨.vmem, 5, rfl⟩
abbrev cc0_scratch1 : Ref sig .tc := ⟨.vmem, 6, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem4_1 : DmaSem sig := 6
abbrev barrier0 : Sem sig := 0

abbrev nD : Nat := 4
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v3 : BitVec 1 := Scalar.cmpi .eq arg0 c0_i32
  let v4 : BitVec 32 := Scalar.extui v3
  let c0_i32_0 : BitVec 32 := 0#32
  let v5 : BitVec 1 := Scalar.cmpi .ne v4 c0_i32_0
  v5

def k0_dev1 (d0 : Dev nD) : Nat :=
  let c0_i32_53 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_44 : BitVec 32 := 1#32
  let v86 : BitVec 32 := Scalar.addi v2 c1_i32_44
  let c4_i32_45 : BitVec 32 := 4#32
  let c0_i32_46 : BitVec 32 := 0#32
  let v87 : BitVec 1 := Scalar.cmpi .eq c4_i32_45 c0_i32_46
  let c1_i32_47 : BitVec 32 := 1#32
  let v88 : BitVec 32 := Scalar.select v87 c1_i32_47 c4_i32_45
  let v89 : BitVec 32 := Scalar.remsi v86 v88
  let c0_i32_49 : BitVec 32 := 0#32
  let v91 : BitVec 1 := Scalar.cmpi .slt v89 c0_i32_49
  let c0_i32_50 : BitVec 32 := 0#32
  let v92 : BitVec 1 := Scalar.cmpi .slt v88 c0_i32_50
  let v93 : BitVec 1 := Scalar.xori v91 v92
  let c0_i32_48 : BitVec 32 := 0#32
  let v90 : BitVec 1 := Scalar.cmpi .ne v89 c0_i32_48
  let v94 : BitVec 1 := Scalar.andi v93 v90
  let v95 : BitVec 32 := Scalar.addi v89 v88
  let v96 : BitVec 32 := Scalar.select v94 v95 v89
  let c1_i32_52 : BitVec 32 := 1#32
  let v97 : BitVec 32 := Scalar.muli v96 c1_i32_52
  let v98 : BitVec 32 := Scalar.addi c0_i32_53 v97
  v98.toNat
def k0_dev2 (d0 : Dev nD) : Nat :=
  let c0_i32_63 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_54 : BitVec 32 := 2#32
  let v99 : BitVec 32 := Scalar.addi v2 c2_i32_54
  let c4_i32_55 : BitVec 32 := 4#32
  let c0_i32_56 : BitVec 32 := 0#32
  let v100 : BitVec 1 := Scalar.cmpi .eq c4_i32_55 c0_i32_56
  let c1_i32_57 : BitVec 32 := 1#32
  let v101 : BitVec 32 := Scalar.select v100 c1_i32_57 c4_i32_55
  let v102 : BitVec 32 := Scalar.remsi v99 v101
  let c0_i32_59 : BitVec 32 := 0#32
  let v104 : BitVec 1 := Scalar.cmpi .slt v102 c0_i32_59
  let c0_i32_60 : BitVec 32 := 0#32
  let v105 : BitVec 1 := Scalar.cmpi .slt v101 c0_i32_60
  let v106 : BitVec 1 := Scalar.xori v104 v105
  let c0_i32_58 : BitVec 32 := 0#32
  let v103 : BitVec 1 := Scalar.cmpi .ne v102 c0_i32_58
  let v107 : BitVec 1 := Scalar.andi v106 v103
  let v108 : BitVec 32 := Scalar.addi v102 v101
  let v109 : BitVec 32 := Scalar.select v107 v108 v102
  let c1_i32_62 : BitVec 32 := 1#32
  let v110 : BitVec 32 := Scalar.muli v109 c1_i32_62
  let v111 : BitVec 32 := Scalar.addi c0_i32_63 v110
  v111.toNat
def k0_dev3 (d0 : Dev nD) : Nat :=
  let c0_i32_73 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_64 : BitVec 32 := 3#32
  let v112 : BitVec 32 := Scalar.addi v2 c3_i32_64
  let c4_i32_65 : BitVec 32 := 4#32
  let c0_i32_66 : BitVec 32 := 0#32
  let v113 : BitVec 1 := Scalar.cmpi .eq c4_i32_65 c0_i32_66
  let c1_i32_67 : BitVec 32 := 1#32
  let v114 : BitVec 32 := Scalar.select v113 c1_i32_67 c4_i32_65
  let v115 : BitVec 32 := Scalar.remsi v112 v114
  let c0_i32_69 : BitVec 32 := 0#32
  let v117 : BitVec 1 := Scalar.cmpi .slt v115 c0_i32_69
  let c0_i32_70 : BitVec 32 := 0#32
  let v118 : BitVec 1 := Scalar.cmpi .slt v114 c0_i32_70
  let v119 : BitVec 1 := Scalar.xori v117 v118
  let c0_i32_68 : BitVec 32 := 0#32
  let v116 : BitVec 1 := Scalar.cmpi .ne v115 c0_i32_68
  let v120 : BitVec 1 := Scalar.andi v119 v116
  let v121 : BitVec 32 := Scalar.addi v115 v114
  let v122 : BitVec 32 := Scalar.select v120 v121 v115
  let c1_i32_72 : BitVec 32 := 1#32
  let v123 : BitVec 32 := Scalar.muli v122 c1_i32_72
  let v124 : BitVec 32 := Scalar.addi c0_i32_73 v123
  v124.toNat
def k0_off1 (d0 : Dev nD) (c1_i32_79 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v130 : BitVec 32 := Scalar.addi v2 c1_i32_79
  let c4_i32_80 : BitVec 32 := 4#32
  let c0_i32_81 : BitVec 32 := 0#32
  let v131 : BitVec 1 := Scalar.cmpi .eq c4_i32_80 c0_i32_81
  let c1_i32_82 : BitVec 32 := 1#32
  let v132 : BitVec 32 := Scalar.select v131 c1_i32_82 c4_i32_80
  let v133 : BitVec 32 := Scalar.remsi v130 v132
  let c0_i32_84 : BitVec 32 := 0#32
  let v135 : BitVec 1 := Scalar.cmpi .slt v133 c0_i32_84
  let c0_i32_85 : BitVec 32 := 0#32
  let v136 : BitVec 1 := Scalar.cmpi .slt v132 c0_i32_85
  let v137 : BitVec 1 := Scalar.xori v135 v136
  let c0_i32_83 : BitVec 32 := 0#32
  let v134 : BitVec 1 := Scalar.cmpi .ne v133 c0_i32_83
  let v138 : BitVec 1 := Scalar.andi v137 v134
  let v139 : BitVec 32 := Scalar.addi v133 v132
  let v140 : BitVec 32 := Scalar.select v138 v139 v133
  let c1024_i32_86 : BitVec 32 := 1024#32
  let v141 : BitVec 32 := Scalar.muli v140 c1024_i32_86
  let c0_i32_94 : BitVec 32 := 0#32
  ![v141.toNat, 0]
def k0_dev4 (d0 : Dev nD) : Nat :=
  let c0_i32_91 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_79 : BitVec 32 := 1#32
  let v130 : BitVec 32 := Scalar.addi v2 c1_i32_79
  let c4_i32_80 : BitVec 32 := 4#32
  let c0_i32_81 : BitVec 32 := 0#32
  let v131 : BitVec 1 := Scalar.cmpi .eq c4_i32_80 c0_i32_81
  let c1_i32_82 : BitVec 32 := 1#32
  let v132 : BitVec 32 := Scalar.select v131 c1_i32_82 c4_i32_80
  let v133 : BitVec 32 := Scalar.remsi v130 v132
  let c0_i32_84 : BitVec 32 := 0#32
  let v135 : BitVec 1 := Scalar.cmpi .slt v133 c0_i32_84
  let c0_i32_85 : BitVec 32 := 0#32
  let v136 : BitVec 1 := Scalar.cmpi .slt v132 c0_i32_85
  let v137 : BitVec 1 := Scalar.xori v135 v136
  let c0_i32_83 : BitVec 32 := 0#32
  let v134 : BitVec 1 := Scalar.cmpi .ne v133 c0_i32_83
  let v138 : BitVec 1 := Scalar.andi v137 v134
  let v139 : BitVec 32 := Scalar.addi v133 v132
  let v140 : BitVec 32 := Scalar.select v138 v139 v133
  let c1_i32_90 : BitVec 32 := 1#32
  let v142 : BitVec 32 := Scalar.muli v140 c1_i32_90
  let v143 : BitVec 32 := Scalar.addi c0_i32_91 v142
  v143.toNat
def k0_dev5 (d0 : Dev nD) : Nat :=
  let c0_i32_107 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_95 : BitVec 32 := 2#32
  let v151 : BitVec 32 := Scalar.addi v2 c2_i32_95
  let c4_i32_96 : BitVec 32 := 4#32
  let c0_i32_97 : BitVec 32 := 0#32
  let v152 : BitVec 1 := Scalar.cmpi .eq c4_i32_96 c0_i32_97
  let c1_i32_98 : BitVec 32 := 1#32
  let v153 : BitVec 32 := Scalar.select v152 c1_i32_98 c4_i32_96
  let v154 : BitVec 32 := Scalar.remsi v151 v153
  let c0_i32_100 : BitVec 32 := 0#32
  let v156 : BitVec 1 := Scalar.cmpi .slt v154 c0_i32_100
  let c0_i32_101 : BitVec 32 := 0#32
  let v157 : BitVec 1 := Scalar.cmpi .slt v153 c0_i32_101
  let v158 : BitVec 1 := Scalar.xori v156 v157
  let c0_i32_99 : BitVec 32 := 0#32
  let v155 : BitVec 1 := Scalar.cmpi .ne v154 c0_i32_99
  let v159 : BitVec 1 := Scalar.andi v158 v155
  let v160 : BitVec 32 := Scalar.addi v154 v153
  let v161 : BitVec 32 := Scalar.select v159 v160 v154
  let c1_i32_106 : BitVec 32 := 1#32
  let v163 : BitVec 32 := Scalar.muli v161 c1_i32_106
  let v164 : BitVec 32 := Scalar.addi c0_i32_107 v163
  v164.toNat
def k0_dev6 (d0 : Dev nD) : Nat :=
  let c0_i32_123 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_111 : BitVec 32 := 3#32
  let v172 : BitVec 32 := Scalar.addi v2 c3_i32_111
  let c4_i32_112 : BitVec 32 := 4#32
  let c0_i32_113 : BitVec 32 := 0#32
  let v173 : BitVec 1 := Scalar.cmpi .eq c4_i32_112 c0_i32_113
  let c1_i32_114 : BitVec 32 := 1#32
  let v174 : BitVec 32 := Scalar.select v173 c1_i32_114 c4_i32_112
  let v175 : BitVec 32 := Scalar.remsi v172 v174
  let c0_i32_116 : BitVec 32 := 0#32
  let v177 : BitVec 1 := Scalar.cmpi .slt v175 c0_i32_116
  let c0_i32_117 : BitVec 32 := 0#32
  let v178 : BitVec 1 := Scalar.cmpi .slt v174 c0_i32_117
  let v179 : BitVec 1 := Scalar.xori v177 v178
  let c0_i32_115 : BitVec 32 := 0#32
  let v176 : BitVec 1 := Scalar.cmpi .ne v175 c0_i32_115
  let v180 : BitVec 1 := Scalar.andi v179 v176
  let v181 : BitVec 32 := Scalar.addi v175 v174
  let v182 : BitVec 32 := Scalar.select v180 v181 v175
  let c1_i32_122 : BitVec 32 := 1#32
  let v184 : BitVec 32 := Scalar.muli v182 c1_i32_122
  let v185 : BitVec 32 := Scalar.addi c0_i32_123 v184
  v185.toNat
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32 : BitVec 32 := 1024#32
  let v6 : BitVec 32 := Scalar.muli v2 c1024_i32
  let v7 : Index := Scalar.indexCast v6
  let c0 : Index := 0#32
  ![v7.toNat, 0]
def k0_off3 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_1 : BitVec 32 := 1024#32
  let v9 : BitVec 32 := Scalar.muli v2 c1024_i32_1
  let v10 : Index := Scalar.indexCast v9
  let c0_2 : Index := 0#32
  ![v10.toNat, 0]
def k0_off4 (d0 : Dev nD) (c1_i32_3 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v14 : BitVec 32 := Scalar.subi v2 c1_i32_3
  let c4_i32_4 : BitVec 32 := 4#32
  let c0_i32_5 : BitVec 32 := 0#32
  let v15 : BitVec 1 := Scalar.cmpi .eq c4_i32_4 c0_i32_5
  let c1_i32_6 : BitVec 32 := 1#32
  let v16 : BitVec 32 := Scalar.select v15 c1_i32_6 c4_i32_4
  let v17 : BitVec 32 := Scalar.remsi v14 v16
  let c0_i32_8 : BitVec 32 := 0#32
  let v19 : BitVec 1 := Scalar.cmpi .slt v17 c0_i32_8
  let c0_i32_9 : BitVec 32 := 0#32
  let v20 : BitVec 1 := Scalar.cmpi .slt v16 c0_i32_9
  let v21 : BitVec 1 := Scalar.xori v19 v20
  let c0_i32_7 : BitVec 32 := 0#32
  let v18 : BitVec 1 := Scalar.cmpi .ne v17 c0_i32_7
  let v22 : BitVec 1 := Scalar.andi v21 v18
  let v23 : BitVec 32 := Scalar.addi v17 v16
  let v24 : BitVec 32 := Scalar.select v22 v23 v17
  let c1024_i32_12 : BitVec 32 := 1024#32
  let v27 : BitVec 32 := Scalar.muli v24 c1024_i32_12
  let v28 : Index := Scalar.indexCast v27
  let c0_13 : Index := 0#32
  ![v28.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S4096x1024 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x512 .fp8e5m2 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S4096x4096 : Shape := ⟨2, ![4096, 4096]⟩
abbrev S4096x8192 : Shape := ⟨2, ![4096, 8192]⟩
abbrev S1 : Shape := ⟨1, ![1]⟩
abbrev S1x1 : Shape := ⟨2, ![1, 1]⟩

abbrev nBuf : Space → Nat
  | .hbm => 5
  | .vmem => 5
  | .smem => 0
  | _ => 0

abbrev bufTy : (tb : Table) → Fin (tcTables nBuf tb) → BufTy
  | .hbm, ⟨0, _⟩ => ⟨S4096x4096, .fp8e5m2⟩
  | .hbm, ⟨1, _⟩ => ⟨S4096x8192, .fp8e5m2⟩
  | .hbm, ⟨2, _⟩ => ⟨S1, .f32⟩
  | .hbm, ⟨3, _⟩ => ⟨S1, .f32⟩
  | .hbm, ⟨4, _⟩ => ⟨S4096x8192, .f32⟩
  | .local _ .vmem, ⟨0, _⟩ => ⟨S4096x4096, .fp8e5m2⟩
  | .local _ .vmem, ⟨1, _⟩ => ⟨S4096x8192, .fp8e5m2⟩
  | .local _ .vmem, ⟨2, _⟩ => ⟨S1, .f32⟩
  | .local _ .vmem, ⟨3, _⟩ => ⟨S1, .f32⟩
  | .local _ .vmem, ⟨4, _⟩ => ⟨S4096x8192, .f32⟩
  | _, _ => ⟨S4096x4096, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4096x4096 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x8192 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Mesh.lean ====
/-
# The mesh of four devices, and the views the exchange goes through

Device `c` sends to the three other devices: to `fwd k c`, the device `k + 1` places after it, for `k = 0, 1, 2`.
Here: the arithmetic of `fwd`, the kernel's device and offset words in closed form, the buffers' slices as memrefs,
and the seven semaphores of a device that the exchange uses.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Launch
public import Idealize.ShloMosaic.Lib.Pipeline.Kit
public import Idealize.ShloMosaic.Lib.Ring.FamCut
public import Idealize.ShloMosaic.Lib.Tactic

@[expose] public section

noncomputable section

namespace Cert.Exchange

open Cert.KernelIdeal Cert.KernelIdeal.Gen

open Idealize.ShloMosaic
open Idealize.ShloMosaic.TcCoe

/-! ## Devices -/

/-- The device `k + 1` places after `c` on the cycle of four. -/
def fwd (k : Fin 3) (c : Dev nD) : Dev nD := ⟨(c.val + (k.val + 1)) % 4, Nat.mod_lt _ (by decide)⟩

/-- Going `k + 1` places on and then `(2 - k) + 1` places on is going around once. -/
theorem fwd_rev_fwd (k : Fin 3) (c : Dev nD) : fwd k.rev (fwd k c) = c := by revert k c; decide
/-- The same the other way around. -/
theorem fwd_fwd_rev (k : Fin 3) (c : Dev nD) : fwd k (fwd k.rev c) = c := by revert k c; decide
/-- No device sends to itself. -/
theorem fwd_ne (k : Fin 3) (c : Dev nD) : fwd k c ≠ c := by revert k c; decide
/-- The three devices a device sends to are three. -/
theorem fwd_inj {k k' : Fin 3} {c : Dev nD} (h : fwd k c = fwd k' c) : k = k' := by revert k k' c; decide

/-- Going `k + 1` places on, as a permutation of the devices. -/
def turn (k : Fin 3) : Dev nD ≃ Dev nD := ⟨fwd k, fwd k.rev, fwd_rev_fwd k, fwd_fwd_rev k⟩

/-- The destination words of the three signals and the three transfers. -/
theorem dev1_eq (c : Dev nD) : k0_dev1 c = (fwd 0 c).val := by revert c; decide
/-- The second signal. -/
theorem dev2_eq (c : Dev nD) : k0_dev2 c = (fwd 1 c).val := by revert c; decide
/-- The third signal. -/
theorem dev3_eq (c : Dev nD) : k0_dev3 c = (fwd 2 c).val := by revert c; decide
/-- The first transfer. -/
theorem dev4_eq (c : Dev nD) : k0_dev4 c = (fwd 0 c).val := by revert c; decide
/-- The second transfer. -/
theorem dev5_eq (c : Dev nD) : k0_dev5 c = (fwd 1 c).val := by revert c; decide
/-- The third transfer. -/
theorem dev6_eq (c : Dev nD) : k0_dev6 c = (fwd 2 c).val := by revert c; decide

/-- The first row a device sends, and the first row of the weight block a received block is multiplied with. -/
theorem off1_eq (c : Dev nD) (k : Fin 3) : k0_off1 c (BitVec.ofNat 32 (1 + k.val)) = ![1024 * (fwd k c).val, 0] := by
  revert c k; decide
/-- The rows of the right matrix for the block from `k + 1` places before. -/
theorem off4_eq (c : Dev nD) (k : Fin 3) : k0_off4 c (BitVec.ofNat 32 (1 + k.val)) = ![1024 * (fwd k.rev c).val, 0] := by
  revert c k; decide

/-! ## Memrefs -/

/-- The copy of the columns, whole. -/
abbrev xM : Memref sig .tc .vmem S4096x1024 .fp8e5m2 := Memref.whole cc0_scratch0
/-- The landing buffer, whole. -/
abbrev rM : Memref sig .tc .vmem S4x1024x1024 .fp8e5m2 := Memref.whole cc0_scratch1

/-- The rows for a device lie in the copy. -/
theorem row_inb (d : Dev nD) : ∀ a, (![1024 * d.val, 0] : Fin 2 → ℕ) a + S1024x1024.size a ≤ S4096x1024.size a := by
  revert d; decide
/-- The rows for a device lie in the right matrix's tile. -/
theorem wrow_inb (d : Dev nD) : ∀ a, (![1024 * d.val, 0] : Fin 2 → ℕ) a + S1024x512.size a ≤ S4096x512.size a := by
  revert d; decide
/-- A slot lies in the landing buffer. -/
theorem slot_inb (k : Fin 3) : ∀ a, (![k.val + 1, 0, 0] : Fin 3 → ℕ) a + S1x1024x1024.size a ≤ S4x1024x1024.size a := by
  revert k; decide
/-- A semaphore lies in its array. -/
theorem sem_inb (k : Fin 3) : ∀ a, (![k.val + 1] : Fin 1 → ℕ) a + S1.size a ≤ S4.size a := by
  revert k; decide

/-- The rows of a device's columns of the left matrix that device `d` needs. -/
abbrev rowR (d : Dev nD) : Rect S4096x1024 := Rect.unit (s := S4096x1024) ![1024 * d.val, 0] S1024x1024.size (row_inb d)
/-- The rows of the right matrix that multiply device `d`'s columns of the left one. -/
abbrev wrowR (d : Dev nD) : Rect S4096x512 := Rect.unit (s := S4096x512) ![1024 * d.val, 0] S1024x512.size (wrow_inb d)
/-- The slot of the landing buffer for the block sent `k + 1` places on. -/
abbrev slotR (k : Fin 3) : Rect S4x1024x1024 := Rect.unit (s := S4x1024x1024) ![k.val + 1, 0, 0] S1x1024x1024.size (slot_inb k)

/-- The rows for device `d`, as a memref. -/
abbrev rowM (d : Dev nD) : Memref sig .tc .vmem S1024x1024 .fp8e5m2 := xM.slice (rowR d) (fun _ => rfl)
/-- A slot, as a memref of a block. -/
abbrev slotM (k : Fin 3) : Memref sig .tc .vmem S1024x1024 .fp8e5m2 :=
  (rM.slice (slotR k) (fun _ => rfl)).squeeze S1024x1024 squeezes_S1x1024x1024_S1024x1024

/-- The slice the kernel's `k`-th transfer reads is the rows its receiver needs. -/
theorem srcM_eq (c : Dev nD) (k : Fin 3) (inb) (hs) :
    xM.slice (Rect.unit (s := S4096x1024) (k0_off1 c (BitVec.ofNat 32 (1 + k.val))) S1024x1024.size inb) hs = rowM (fwd k c) :=
  Memref.slice_unit_congr xM (off1_eq c k) _ _ _ _

/-- The buffer elements under the two kinds of slice. -/
theorem rowM_set (d : Dev nD) : (rowM d).view.set = (rowR d).set := View.set_slice_whole cc0_scratch0 _
/-- A slot has the elements of its rectangle. -/
theorem slotM_set (k : Fin 3) : (slotM k).view.set = (slotR k).set :=
  (View.set_reshape _ _).trans (View.set_slice_whole cc0_scratch1 _)

/-- The rows for different devices are disjoint, -/
theorem rowM_disjoint {d d' : Dev nD} (h : d ≠ d') :
    Disjoint ((rowM d).view.set : Finset S4096x1024.Idx) ((rowM d').view.set : Finset S4096x1024.Idx) := by
  have h' : d.val ≠ d'.val := fun e => h (Fin.ext e)
  have key : Disjoint (rowR d).set (rowR d').set := by
    refine Rect.unit_disjoint 0 ?_
    show 1024 * d.val + 1024 ≤ 1024 * d'.val ∨ 1024 * d'.val + 1024 ≤ 1024 * d.val
    omega
  rw [← rowM_set, ← rowM_set] at key
  exact key

/-- and so are different slots. -/
theorem slotM_disjoint {k k' : Fin 3} (h : k ≠ k') :
    Disjoint ((slotM k).view.set : Finset S4x1024x1024.Idx) ((slotM k').view.set : Finset S4x1024x1024.Idx) := by
  have h' : k.val ≠ k'.val := fun e => h (Fin.ext e)
  have key : Disjoint (slotR k).set (slotR k').set := by
    refine Rect.unit_disjoint 0 ?_
    show k.val + 1 + 1 ≤ k'.val + 1 ∨ k'.val + 1 + 1 ≤ k.val + 1
    omega
  rw [← slotM_set, ← slotM_set] at key
  exact key

/-! ## Semaphores -/

/-- The entry barrier's semaphore, and the semaphores of the transfer `k + 1` places on. -/
abbrev barS : Sem sig := (SemArray.scalar (sig.barrier 0 rfl) : Sems sig S_).sem
/-- A transfer's send semaphore. -/
abbrev sendS (k : Fin 3) : DmaSem sig :=
  ((cc0_scratch2.slice (Rect.unit (s := S4) ![k.val + 1] S1.size (sem_inb k))).squeeze S_ squeezes_S1_S_).sem
/-- A transfer's receive semaphore. -/
abbrev recvS (k : Fin 3) : DmaSem sig :=
  ((cc0_scratch3.slice (Rect.unit (s := S4) ![k.val + 1] S1.size (sem_inb k))).squeeze S_ squeezes_S1_S_).sem

/-- The seven semaphores: the barrier (`none`), the sends (`false, k`), the receives (`true, k`). -/
abbrev Which : Type := Option (Bool × Fin 3)
/-- The semaphore of each of the seven names. -/
abbrev csem : Which → SemLoc sig
  | none => .reg barS
  | some (false, k) => .dma (sendS k)
  | some (true, k) => .dma (recvS k)

/-- Which of the seven a semaphore is, if any. -/
def kind (s : SemLoc sig) : Option Which :=
  [none, some (false, 0), some (false, 1), some (false, 2), some (true, 0), some (true, 1), some (true, 2)].find?
    (fun w => decide (csem w = s))

/-- A name is read back from its semaphore. -/
theorem kind_csem (w : Which) : kind (csem w) = some w := by revert w; decide
/-- Seven names, seven semaphores. -/
theorem csem_injective : Function.Injective csem := fun w w' h =>
  Option.some.inj ((kind_csem w).symm.trans ((congrArg kind h).trans (kind_csem w')))

/-- A semaphore of device `c`'s seven. -/
abbrev kcell (cw : Dev nD × Which) : GSem nD τ sig := ((cw.1 : Thread nD τ), csem cw.2)
/-- Different devices or names, different cells. -/
theorem kcell_injective : Function.Injective kcell := by
  rintro ⟨c, w⟩ ⟨c', w'⟩ h
  have h1 : c = c' := congrArg (fun g : GSem nD τ sig => g.1.1) h
  have h2 : w = w' := csem_injective (congrArg Prod.snd h)
  rw [h1, h2]

/-- A device's barrier. -/
abbrev barCell (c : Dev nD) : GSem nD τ sig := ((c : Thread nD τ), .reg barS)
/-- A device's send semaphores. -/
abbrev sendCell (c : Dev nD) (k : Fin 3) : GSem nD τ sig := ((c : Thread nD τ), .dma (sendS k))
/-- A device's receive semaphores. -/
abbrev recvCell (c : Dev nD) (k : Fin 3) : GSem nD τ sig := ((c : Thread nD τ), .dma (recvS k))

/-- What one transfer adds to its two semaphores. -/
abbrev N : ℕ := (slotM 0).view.dmaCredit
/-- A block counts for something. -/
theorem N_pos : 0 < N := View.dmaCredit_pos _ (by decide)
/-- A slot counts as one block, -/
theorem slot_credit (k : Fin 3) : (slotM k).view.dmaCredit = N := rfl
/-- and so do the rows for a device. -/
theorem row_credit (d : Dev nD) : (rowM d).view.dmaCredit = N := rfl

end Cert.Exchange

end
-- ==== Proof.Protocol.lean ====
/-
# The exchange's protocol

Every device signals the three others' barriers and waits for its own three units; then it sends the three row blocks
of its columns that the others need, and waits for its three sends and for the three blocks it receives. Here: what the
buffers hold, what each signal and each transfer hands over, what every device owes at the start, and in which order
the waits may be made.
-/
module

public import proofs.«01_k».proof.Proof.Mesh

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The ghost state: the pipeline's own, and the exchange's with its duties named by `Fin 3`. -/
abbrev UE : Type := URounds (GSem nD τ sig) (Fin 3)
/-- The pipeline's ghost state and the exchange's. -/
abbrev UU : Type := UR sig nD τ × UE

local notation "𝕄" => MT nD τ sig Unit (Elt F) ℕ UU ℕ

/-- Where the pipeline's lies. -/
abbrev EP : Emb (UR sig nD τ) (MT nD τ sig Unit (Elt F) ℕ UU ℕ) := embL
/-- Where the exchange's lies. -/
abbrev EX : Emb UE (MT nD τ sig Unit (Elt F) ℕ UU ℕ) := embR

variable (m : (ℓ : Loc nD τ sig) → Buf (Elt F) ℓ) (ρ : Dev nD → PrngReg)

/-- The memory at launch. -/
def s₀ : MemSt nD τ sig (Elt F) := ⟨m, fun _ => 0, ρ⟩

/-! ## Contents -/

/-- Device `c`'s columns of the left matrix, as the pipeline stages them. -/
def xin (c : Dev nD) : Vec F S4096x1024 .fp8e5m2 := iblk m c (0 : Fin 5) t0_0

/-- The rows of device `p`'s columns that device `d` needs. -/
def xblk (p d : Dev nD) : Vec F S1024x1024 .fp8e5m2 := (rowM d).view.read (Elt F) (xin m p)

/-- Slot `k` of device `c`'s landing buffer, whole, at contents `f`. -/
def slotPts (c : Dev nD) (k : Fin 3) (f : Buf (Elt F) ((slotM k).view.loc (c : Thread nD τ))) : sProp 𝕄 :=
  (slotM k).view.loc (c : Thread nD τ) ↦[(slotM k).view.set]{fullShare} f

/-- The rows for device `d` in device `c`'s copy of its columns. -/
def rowPts (c d : Dev nD) : sProp 𝕄 :=
  (rowM d).view.loc (c : Thread nD τ) ↦[(rowM d).view.set]{fullShare} (xin m c)

omit [FloatOps F] in
/-- A slot can be handed over, -/
instance slotPts_storable (c : Dev nD) (k : Fin 3) (f) : BI.Storable (upEmb : UEmb _ 𝕄) (slotPts (F := F) c k f) := by
  unfold slotPts; infer_instance
omit [FloatOps F] in
/-- and so can rows, -/
instance rowPts_storable (c d : Dev nD) : BI.Storable (upEmb : UEmb _ 𝕄) (rowPts (F := F) m c d) := by
  unfold rowPts; infer_instance

/-- Slot `k` of device `c` holds the block of the device that sent it, `k + 1` places back. -/
def landed (c : Dev nD) (k : Fin 3) : sProp 𝕄 :=
  iprop(∃ f, ⌜(slotM k).view.read (Elt F) f = xblk m (fwd k.rev c) c⌝ ∗ slotPts c k f)

omit [FloatOps F] in
/-- and a slot with its block in it, -/
instance landed_storable (c : Dev nD) (k : Fin 3) : BI.Storable (upEmb : UEmb _ 𝕄) (landed (F := F) m c k) := by
  unfold landed; infer_instance

/-! ## The schedule -/

/-- What unit `j` of device `c`'s barrier hands `c`: the slot of device `fwd j c` that `c`'s block goes to, and that
    `fwd j c` has not begun to wait for that block. -/
def barPay (c : Dev nD) (j : Fin 3) : sProp 𝕄 :=
  iprop((∃ f, slotPts (fwd j c) j f) ∗ reached EX (recvCell (fwd j c) j) 0)

/-- One round: a barrier has the three units `0, 1, 2`; a send gives the rows sent back; a receive gives the slot with
    the block in it. -/
def sched : Rounds.Schedule (GSem nD τ sig) (Fin 3) 𝕄 where
  duties g r := if r = 0 ∧ g.1.2 = .tc then (match kind g.2 with
    | some none => Finset.univ
    | some (some _) => {0}
    | none => ∅) else ∅
  unitless _ := False
  amount g _ _ := if kind g.2 = some none then 1 else N
  payload g _ d := match kind g.2 with
    | some none => barPay g.1.1 d
    | some (some (false, k)) => rowPts m g.1.1 (fwd k g.1.1)
    | some (some (true, k)) => landed m g.1.1 k
    | none => iprop(emp)
  amount_pos g _ _ _ := by
    by_cases h : kind g.2 = some none
    · rw [if_pos h]; exact Nat.one_pos
    · rw [if_neg h]; exact N_pos

/-- and every payload. -/
instance sched_payload_storable (g : GSem nD τ sig) (r : ℕ) (d : Fin 3) :
    BI.Storable (upEmb : UEmb _ 𝕄) ((sched (F := F) m).payload g r d) := by
  dsimp only [sched]
  unfold barPay
  split <;> infer_instance

section Sched
variable (c : Dev nD) (k : Fin 3)

/-- The barrier by its name. -/
theorem kind_bar : kind (.reg barS) = some none := kind_csem none
/-- A send semaphore by its name. -/
theorem kind_send : kind (.dma (sendS k)) = some (some (false, k)) := kind_csem (some (false, k))
/-- A receive semaphore by its name. -/
theorem kind_recv : kind (.dma (recvS k)) = some (some (true, k)) := kind_csem (some (true, k))

omit [FloatOps F] in
/-- Three duties at a barrier. -/
theorem duties_bar : (sched (F := F) m).duties (barCell c) 0 = Finset.univ := by
  dsimp only [sched]; rw [if_pos ⟨rfl, rfl⟩, kind_bar]
omit [FloatOps F] in
/-- One duty at a send semaphore. -/
theorem duties_send : (sched (F := F) m).duties (sendCell c k) 0 = {0} := by
  dsimp only [sched]; rw [if_pos ⟨rfl, rfl⟩, kind_send]
omit [FloatOps F] in
/-- One duty at a receive semaphore. -/
theorem duties_recv : (sched (F := F) m).duties (recvCell c k) 0 = {0} := by
  dsimp only [sched]; rw [if_pos ⟨rfl, rfl⟩, kind_recv]
omit [FloatOps F] in
/-- No duty after the first round. -/
theorem duties_later (g : GSem nD τ sig) : ∀ r, 1 ≤ r → (sched (F := F) m).duties g r = ∅ := fun r hr => by
  dsimp only [sched]; rw [if_neg fun h => by omega]

omit [FloatOps F] in
/-- One unit for each duty at a barrier. -/
theorem amount_bar (d : Fin 3) : (sched (F := F) m).amount (barCell c) 0 d = 1 := by
  dsimp only [sched]; rw [kind_bar, if_pos rfl]
omit [FloatOps F] in
/-- One block at a send semaphore. -/
theorem amount_send (d : Fin 3) : (sched (F := F) m).amount (sendCell c k) 0 d = N := by
  dsimp only [sched]; rw [kind_send, if_neg (fun h => by cases h)]
omit [FloatOps F] in
/-- One block at a receive semaphore. -/
theorem amount_recv (d : Fin 3) : (sched (F := F) m).amount (recvCell c k) 0 d = N := by
  dsimp only [sched]; rw [kind_recv, if_neg (fun h => by cases h)]

omit [FloatOps F] in
/-- Three units in all at a barrier. -/
theorem expect_bar : (sched (F := F) m).expect (barCell c) 0 = 3 := by
  unfold Schedule.expect Schedule.amountOf
  rw [duties_bar, Finset.sum_congr rfl fun d _ => amount_bar m c d]
  rfl
omit [FloatOps F] in
/-- One block in all at a send semaphore. -/
theorem expect_send : (sched (F := F) m).expect (sendCell c k) 0 = N := by
  unfold Schedule.expect Schedule.amountOf; rw [duties_send, Finset.sum_singleton, amount_send]
omit [FloatOps F] in
/-- One block in all at a receive semaphore. -/
theorem expect_recv : (sched (F := F) m).expect (recvCell c k) 0 = N := by
  unfold Schedule.expect Schedule.amountOf; rw [duties_recv, Finset.sum_singleton, amount_recv]

omit [FloatOps F] in
/-- What a signal hands over. -/
theorem payload_bar (d : Fin 3) : (sched (F := F) m).payload (barCell c) 0 d = barPay c d := by
  dsimp only [sched]; rw [kind_bar]
omit [FloatOps F] in
/-- What a send hands back. -/
theorem payload_send (d : Fin 3) : (sched (F := F) m).payload (sendCell c k) 0 d = rowPts m c (fwd k c) := by
  dsimp only [sched]; rw [kind_send]
omit [FloatOps F] in
/-- What a receive hands over. -/
theorem payload_recv (d : Fin 3) : (sched (F := F) m).payload (recvCell c k) 0 d = landed m c k := by
  dsimp only [sched]; rw [kind_recv]

omit [FloatOps F] in
/-- A product over three, written out. -/
theorem bigSep_three (Φ : Fin 3 → sProp 𝕄) : bigSep Finset.univ Φ = iprop(Φ 0 ∗ Φ 1 ∗ Φ 2) :=
  bigSep_univ_eq_bigSepL [0, 1, 2] (by decide) (by decide) Φ

omit [FloatOps F] in
/-- A barrier's three units together. -/
theorem rest_bar : bigSep ((sched (F := F) m).duties (barCell c) 0 \ ∅) (fun d => (sched (F := F) m).payload (barCell c) 0 d)
    = iprop(barPay c 0 ∗ barPay c 1 ∗ barPay c 2) := by
  rw [Finset.sdiff_empty, duties_bar, bigSep_three, payload_bar, payload_bar, payload_bar]
omit [FloatOps F] in
/-- All that a send semaphore hands over. -/
theorem rest_send : bigSep ((sched (F := F) m).duties (sendCell c k) 0 \ ∅) (fun d => (sched (F := F) m).payload (sendCell c k) 0 d)
    = rowPts m c (fwd k c) := by
  rw [Finset.sdiff_empty, duties_send, bigSep_singleton, payload_send]
omit [FloatOps F] in
/-- All that a receive semaphore hands over. -/
theorem rest_recv : bigSep ((sched (F := F) m).duties (recvCell c k) 0 \ ∅) (fun d => (sched (F := F) m).payload (recvCell c k) 0 d)
    = landed m c k := by
  rw [Finset.sdiff_empty, duties_recv, bigSep_singleton, payload_recv]

end Sched

/-! ## What a device owes, and the order of the waits -/

/-- The credit of one transfer of device `c`, and its unit at one barrier. -/
abbrev tR (c : Dev nD) (k : Fin 3) : CellTallies nD τ sig Unit := tallyAt (recvCell (fwd k c) k) () N
/-- The signal to the device `k + 1` places on. -/
abbrev tB (c : Dev nD) (k : Fin 3) : CellTallies nD τ sig Unit := tallyAt (barCell (fwd k c)) () 1

/-- After the signals: the three transfers; at the start: those and the three signals. -/
def OR (c : Dev nD) : CellTallies nD τ sig Unit := tR c 2 + tR c 1 + tR c 0
/-- What a device owes at the start. -/
def O₀ (c : Dev nD) : CellTallies nD τ sig Unit := OR c + tB c 2 + tB c 1 + tB c 0

/-- Every semaphore of a main core has a level. -/
def L (g : GSem nD τ sig) : Finset Unit := if g.1.2 = .tc then {()} else ∅
/-- A barrier comes before the receives, everything else before the barriers. -/
def lv (g : GSem nD τ sig) (_ : Unit) : ℕ := match kind g.2 with
  | some none => 1
  | some (some (true, _)) => 2
  | _ => 0

/-- No other core has any. -/
theorem L_of_ne (g : GSem nD τ sig) (h : g.1.2 ≠ .tc) : L g = ∅ := if_neg h
/-- A main core has. -/
theorem L_tc (c : Dev nD) (sm : SemLoc sig) : L ((c : Thread nD τ), sm) = {()} := if_pos rfl
/-- A barrier's level. -/
theorem lv_bar (c : Dev nD) (u : Unit) : lv (barCell c) u = 1 := by unfold lv; rw [kind_bar]
/-- A receive semaphore's level. -/
theorem lv_recv (c : Dev nD) (k : Fin 3) (u : Unit) : lv (recvCell c k) u = 2 := by unfold lv; rw [kind_recv]

/-- A tally owes only at its own cell. -/
theorem tally_pos {g g' : GSem nD τ sig} {u u' : Unit} {n : ℕ} (h : 0 < (tallyAt g' u' n : CellTallies nD τ sig Unit) g u) : g = g' := by
  rw [tallyAt_apply] at h
  by_contra hn
  rw [if_neg fun h' => hn h'.1] at h
  exact Nat.lt_irrefl 0 h

/-- What a sum owes, one of its two parts owes. -/
theorem add_pos' {A B : CellTallies nD τ sig Unit} {g : GSem nD τ sig} {u : Unit} (h : 0 < (A + B) g u) : 0 < A g u ∨ 0 < B g u := by
  rw [Pi.add_apply, Finsupp.add_apply] at h; omega

/-- After the signals a device owes blocks only. -/
theorem OR_pos {c : Dev nD} {g : GSem nD τ sig} {u : Unit} (h : 0 < OR c g u) : ∃ k, g = recvCell (fwd k c) k := by
  unfold OR at h
  rcases add_pos' h with h | h
  · rcases add_pos' h with h | h
    · exact ⟨2, tally_pos h⟩
    · exact ⟨1, tally_pos h⟩
  · exact ⟨0, tally_pos h⟩

/-- At the start a device owes blocks and signals only. -/
theorem O₀_pos {c : Dev nD} {g : GSem nD τ sig} {u : Unit} (h : 0 < O₀ c g u) :
    (∃ k, g = recvCell (fwd k c) k) ∨ ∃ k, g = barCell (fwd k c) := by
  unfold O₀ at h
  rcases add_pos' h with h | h
  · rcases add_pos' h with h | h
    · rcases add_pos' h with h | h
      · exact Or.inl (OR_pos h)
      · exact Or.inr ⟨2, tally_pos h⟩
    · exact Or.inr ⟨1, tally_pos h⟩
  · exact Or.inr ⟨0, tally_pos h⟩

omit [FloatOps F] in
/-- A wait on a semaphore at level 0 may be made while everything is owed, or nothing. -/
theorem mayWait_low (c : Dev nD) (sm : SemLoc sig) (hq : lv ((c : Thread nD τ), sm) () = 0) (O : CellTallies nD τ sig Unit)
    (hO : O = O₀ c ∨ O = 0) : (levAts L lv : sProp 𝕄) ⊢ MayWait (c : Thread nD τ) sm () O := by
  rcases hO with rfl | rfl
  · refine MayOwe.of_cut (L := L) (lev := lv) 0 (fun p hp => by rw [Finset.mem_singleton.mp hp, L_tc]; exact Finset.mem_singleton_self _)
      (fun g u hg => ?_) (fun p hp => by rw [Finset.mem_singleton.mp hp]; exact Nat.le_of_eq hq) (fun g u hg => ?_)
    · rcases O₀_pos hg with ⟨k, rfl⟩ | ⟨k, rfl⟩ <;> exact Finset.mem_singleton_self _
    · rcases O₀_pos hg with ⟨k, rfl⟩ | ⟨k, rfl⟩
      · rw [lv_recv]; decide
      · rw [lv_bar]; decide
  · rw [MayWait_zero]; iintro -; iempintro

omit [FloatOps F] in
/-- The wait on the barrier may be made while the transfers are owed. -/
theorem mayWait_bar (c : Dev nD) : (levAts L lv : sProp 𝕄) ⊢ MayWait (c : Thread nD τ) (.reg barS) () (OR c) :=
  MayOwe.of_cut (L := L) (lev := lv) 1 (fun p hp => by rw [Finset.mem_singleton.mp hp, L_tc]; exact Finset.mem_singleton_self _)
    (fun g u hg => by obtain ⟨k, rfl⟩ := OR_pos hg; exact Finset.mem_singleton_self _)
    (fun p hp => by rw [Finset.mem_singleton.mp hp]; exact Nat.le_of_eq (lv_bar c ()))
    (fun g u hg => by obtain ⟨k, rfl⟩ := OR_pos hg; rw [lv_recv]; decide)

/-! ## The ghost state of a device -/

/-- That every one of the devices' cells follows the schedule and has reached round 0. -/
def records (K : Dev nD × Which → ℕ) : sProp 𝕄 :=
  iprop((bigSep Finset.univ fun cw : Dev nD × Which => cellInv EX (sched m) (K cw) (kcell cw))
    ∗ bigSep Finset.univ fun cw : Dev nD × Which => reached EX (kcell cw) 0)

/-- The records last. -/
instance records_persistent (K : Dev nD × Which → ℕ) : BI.Persistent (records m K) := by unfold records; infer_instance

omit [FloatOps F] in
/-- They give the invariant of every cell, -/
theorem inv_at (K : Dev nD × Which → ℕ) (cw : Dev nD × Which) : records m K ⊢ cellInv EX (sched m) (K cw) (kcell cw) := by
  unfold records
  refine BIBase.Entails.trans ?_ (bigSep_elim (Φ := fun cw => cellInv EX (sched m) (K cw) (kcell cw)) (Finset.mem_univ cw))
  iintro ⟨H, -⟩; iexact H
omit [FloatOps F] in
/-- and that its first round has begun. -/
theorem reached_at (K : Dev nD × Which → ℕ) (cw : Dev nD × Which) : records m K ⊢ reached EX (kcell cw) 0 := by
  unfold records
  refine BIBase.Entails.trans ?_ (bigSep_elim (Φ := fun cw => reached EX (kcell cw) 0) (Finset.mem_univ cw))
  iintro ⟨-, H⟩; iexact H

/-- Device `c`'s position at the start of its cells. -/
def places (c : Dev nD) : sProp 𝕄 :=
  iprop(atPos EX (barCell c) 0 ∅ 0
    ∗ (bigSep Finset.univ fun k : Fin 3 => atPos EX (sendCell c k) 0 ∅ 0)
    ∗ bigSep Finset.univ fun k : Fin 3 => atPos EX (recvCell c k) 0 ∅ 0)

/-- The right to pay the duties that are device `c`'s. -/
def payToks (c : Dev nD) : sProp 𝕄 :=
  iprop((bigSep Finset.univ fun k : Fin 3 => dutyTok EX (barCell (fwd k c)) 0 k.rev)
    ∗ (bigSep Finset.univ fun k : Fin 3 => dutyTok EX (sendCell c k) 0 0)
    ∗ bigSep Finset.univ fun k : Fin 3 => dutyTok EX (recvCell (fwd k c) k) 0 0)

/-- A device's ghost state. -/
def ghost (K : Dev nD × Which → ℕ) (c : Dev nD) : sProp 𝕄 := iprop(records m K ∗ places c ∗ payToks c)

/-- The credit device `c` waits with at its barrier and for its three blocks. -/
def credits (c : Dev nD) : sProp 𝕄 :=
  iprop(cred (tallyAt (barCell c) () 3) ∗ bigSep Finset.univ fun k : Fin 3 => cred (tallyAt (recvCell c k) () N))

/-- What device `c`'s kernel starts from. -/
def start (c : Dev nD) : sProp 𝕄 := iprop((∃ K, ghost m K c) ∗ credits c ∗ levAts L lv)

/-- Every counter of device `c`'s seven at zero, for good. -/
def closed (c : Dev nD) : sProp 𝕄 :=
  iprop(semVal (barCell c) 0 ∗ (bigSep Finset.univ fun k : Fin 3 => semVal (sendCell c k) 0)
    ∗ bigSep Finset.univ fun k : Fin 3 => semVal (recvCell c k) 0)

end Cert.Exchange

end
-- ==== Proof.Steps.lean ====
/-
# One transfer and its two waits, and the part of the kernel after the exchange
-/
module

public import proofs.«01_k».proof.Proof.Protocol

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- No loop variants are needed. -/
abbrev 𝒱₀ : Variants := Variants.none

/-! ## The transfer -/

omit [FloatOps F] in
/-- What a transfer leaves in the receiver's slot is the block. -/
theorem landed_intro (c : Dev nD) (k : Fin 3) (f : Buf (Elt F) ((slotM k).view.loc (fwd k c : Thread nD τ))) :
    slotPts (fwd k c) k ((slotM k).view.write (Elt F) f ((rowM (fwd k c)).view.read (Elt F) (xin m c)) Finset.univ)
      ⊢ landed m (fwd k c) k := by
  unfold landed
  iintro H
  iexists ((slotM k).view.write (Elt F) f ((rowM (fwd k c)).view.read (Elt F) (xin m c)) Finset.univ)
  isplitr
  · ipureintro
    rw [fwd_rev_fwd]; exact View.read_write_univ _ _
  · iexact H

/-- The transfer `k + 1` places on: the rows the receiver needs and the receiver's slot go in; the sender is left with
    the credit of its send, and owes the transfer no more. -/
theorem wp_send_block (K : Dev nD × Which → ℕ) (c n : Dev nD) (k : Fin 3) (hn : n = fwd k c)
    {src : Memref sig .tc .vmem S1024x1024 .fp8e5m2} (hs : src = rowM (fwd k c))
    {hsc : (slotM k : Memref sig (Dev.tc n : Thread nD τ).2.kind .vmem S1024x1024 .fp8e5m2).view.ref.isScScratch = false}
    {hsrc : src.view.WordExact} {hdst : (slotM k).view.WordExact}
    {hsem : DmaTarget.Typed .vmem (.dma (recvS k)) (.remote (Dev.tc n : Thread nD τ) (slotM k) (.dma (sendS k)) hsc)}
    {α : Type} {Q : α → sProp 𝕄} {kt : PUnit → Prog (TpuEff nD τ sig (Elt F) Λ₀ .tc) α}
    (O O' : CellTallies nD τ sig Unit) (hO : O = O' + tR c k) (W : Waits sig Unit) :
    iprop(records m K ∗ rowPts m c (fwd k c) ∗ (∃ f, slotPts (fwd k c) k f) ∗ owes (c : Thread nD τ) O W
        ∗ dutyTok EX (sendCell c k) 0 0 ∗ dutyTok EX (recvCell (fwd k c) k) 0 0)
      ⊢ iprop(((cred (tallyAt (sendCell c k) () N) ∗ owes (c : Thread nD τ) O' W) -∗ wp frame (wpE (defs₀ (F := F)) 𝒱₀ (c : Thread nD τ) none) Set.univ (kt ⟨⟩) Q)
          -∗ wp frame (wpE (defs₀ (F := F)) 𝒱₀ (c : Thread nD τ) none) Set.univ
              (.op (.enqueueDma src (.remote (Dev.tc n : Thread nD τ) (slotM k) (.dma (sendS k)) hsc) (.dma (recvS k)) hsrc hdst hsem) kt) Q) := by
  subst hn hs
  iintro ⟨#HR, Hrow, ⟨%f, Hslot⟩, HO, HtS, HtV⟩
  iapply (Rounds.wp_send_pointsTo 𝒱₀ EX (sched m) (c : Thread nD τ) none (κ₁ := K (c, some (false, k))) (κ₂ := K (fwd k c, some (true, k)))
    (r₁ := 0) (r₂ := 0) (d₁ := 0) (d₂ := 0) (fs := xin m c) (fd := f)
    (by rw [duties_send]; exact Finset.mem_singleton_self _) (by rw [duties_recv]; exact Finset.mem_singleton_self _)
    () () N rfl (amount_send m c k 0) (amount_recv m (fwd k c) k 0) O' hO (W := W)
    (by rw [payload_send]; unfold rowPts; exact BI.Entails.refl _)
    (by rw [payload_recv]; exact landed_intro m c k f))
  isplitr; · iapply (inv_at m K (c, some (false, k))); iexact HR
  isplitr; · iapply (inv_at m K (fwd k c, some (true, k))); iexact HR
  isplitl [Hrow]; · unfold rowPts; iexact Hrow
  isplitl [Hslot]; · unfold slotPts; iexact Hslot
  isplitl [HO]; · iexact HO
  isplitl [HtS]; · iexact HtS
  isplitr; · iapply (reached_at m K (c, some (false, k))); iexact HR
  isplitl [HtV]; · iexact HtV
  iapply (reached_at m K (fwd k c, some (true, k))); iexact HR

/-- The wait for a send: the rows come back, and the send's counter is at zero for good. -/
theorem wp_wait_send (K : Dev nD × Which → ℕ) (c : Dev nD) (k : Fin 3)
    {dst : Memref sig .tc .vmem S1024x1024 .fp8e5m2} (hs : dst = rowM (fwd k c))
    {src : Memref sig .tc .vmem S1024x1024 .fp8e5m2} {h1 : src.view.WordExact} {h2 : dst.view.WordExact}
    {α : Type} {Q : α → sProp 𝕄} {kt : PUnit → Prog (TpuEff nD τ sig (Elt F) Λ₀ .tc) α} (W : Waits sig Unit) :
    iprop(records m K ∗ cred (tallyAt (sendCell c k) () N) ∗ owes (c : Thread nD τ) 0 W ∗ atPos EX (sendCell c k) 0 ∅ 0)
      ⊢ iprop((((∃ W, owes (c : Thread nD τ) 0 W) ∗ rowPts m c (fwd k c) ∗ semVal (sendCell c k) 0) -∗ wp frame (wpE (defs₀ (F := F)) 𝒱₀ (c : Thread nD τ) none) Set.univ (kt ⟨⟩) Q)
          -∗ wp frame (wpE (defs₀ (F := F)) 𝒱₀ (c : Thread nD τ) none) Set.univ (.op (.waitDma2 (sendS k) src dst h1 h2) kt) Q) := by
  subst hs
  iintro ⟨#HR, Hc, HO, Hat⟩ Hk
  iapply (Rounds.wp_wait_rest_token 𝒱₀ EX (sched m) (c : Thread nD τ) none (κ := K (c, some (false, k)))
      (wpE_waitDma2_eq 𝒱₀ (c : Thread nD τ) none Set.univ) (Set.mem_univ _) () (O := 0) (W := W) (R := 0) (m := 0) (T := ∅)
      (by rw [Nat.zero_add, expect_send])) $$ [Hc HO Hat]
  · isplitr; · iapply (inv_at m K (c, some (false, k))); iexact HR
    isplitl [Hc]; · iexact Hc
    isplitl [HO]; · iexact HO
    isplitr; · rw [MayWait_zero]; iempintro
    iexact Hat
  iintro ⟨HO, Hat, -, Hpay⟩
  ihave Hrow := (Entails.of_eq (rest_send m c k)) $$ Hpay
  imod (Rounds.cell_close EX (sched m) (Set.mem_univ (K (c, some (false, k)))) (fun h => h) (R := 0 + 1) (duties_later m (sendCell c k))) $$ [Hat] with Hz
  · isplitr; · iapply (inv_at m K (c, some (false, k))); iexact HR
    iexact Hat
  iapply Hk
  isplitl [HO]; · iexists _; iexact HO
  isplitl [Hrow]; · iexact Hrow
  iexact Hz

/-- The wait for a received block: the slot comes with the block in it, and the counter is at zero for good. -/
theorem wp_wait_recv (K : Dev nD × Which → ℕ) (c : Dev nD) (k : Fin 3)
    {src : Memref sig .tc .vmem S1024x1024 .fp8e5m2} {h1 : src.view.WordExact} {h2 : (slotM k).view.WordExact}
    {α : Type} {Q : α → sProp 𝕄} {kt : PUnit → Prog (TpuEff nD τ sig (Elt F) Λ₀ .tc) α} (W : Waits sig Unit) :
    iprop(records m K ∗ cred (tallyAt (recvCell c k) () N) ∗ owes (c : Thread nD τ) 0 W ∗ atPos EX (recvCell c k) 0 ∅ 0)
      ⊢ iprop((((∃ W, owes (c : Thread nD τ) 0 W) ∗ landed m c k ∗ semVal (recvCell c k) 0) -∗ wp frame (wpE (defs₀ (F := F)) 𝒱₀ (c : Thread nD τ) none) Set.univ (kt ⟨⟩) Q)
          -∗ wp frame (wpE (defs₀ (F := F)) 𝒱₀ (c : Thread nD τ) none) Set.univ (.op (.waitDma2 (recvS k) src (slotM k) h1 h2) kt) Q) := by
  iintro ⟨#HR, Hc, HO, Hat⟩ Hk
  iapply (Rounds.wp_wait_rest_token 𝒱₀ EX (sched m) (c : Thread nD τ) none (κ := K (c, some (true, k)))
      (wpE_waitDma2_eq 𝒱₀ (c : Thread nD τ) none Set.univ) (Set.mem_univ _) () (O := 0) (W := W) (R := 0) (m := 0) (T := ∅)
      (by rw [Nat.zero_add, expect_recv])) $$ [Hc HO Hat]
  · isplitr; · iapply (inv_at m K (c, some (true, k))); iexact HR
    isplitl [Hc]; · iexact Hc
    isplitl [HO]; · iexact HO
    isplitr; · rw [MayWait_zero]; iempintro
    iexact Hat
  iintro ⟨HO, Hat, -, Hpay⟩
  ihave Hrow := (Entails.of_eq (rest_recv m c k)) $$ Hpay
  imod (Rounds.cell_close EX (sched m) (Set.mem_univ (K (c, some (true, k)))) (fun h => h) (R := 0 + 1) (duties_later m (recvCell c k))) $$ [Hat] with Hz
  · isplitr; · iapply (inv_at m K (c, some (true, k))); iexact HR
    iexact Hat
  iapply Hk
  isplitl [HO]; · iexists _; iexact HO
  isplitl [Hrow]; · iexact Hrow
  iexact Hz

/-- The signal to the device `k + 1` places on: its slot for the block coming back that way goes with it. -/
theorem wp_signal_peer (K : Dev nD × Which → ℕ) (c n : Dev nD) (k : Fin 3) (hn : n = fwd k c) {a : ℕ} (ha : a = 1)
    {α : Type} {Q : α → sProp 𝕄} {kt : PUnit → Prog (TpuEff nD τ sig (Elt F) Λ₀ .tc) α}
    (O O' : CellTallies nD τ sig Unit) (hO : O = O' + tB c k) (W : Waits sig Unit) :
    iprop(records m K ∗ owes (c : Thread nD τ) O W ∗ dutyTok EX (barCell (fwd k c)) 0 k.rev ∗ ∃ f, slotPts c k.rev f)
      ⊢ iprop((owes (c : Thread nD τ) O' W -∗ wp frame (wpE (defs₀ (F := F)) 𝒱₀ (c : Thread nD τ) none) Set.univ (kt ⟨⟩) Q)
          -∗ wp frame (wpE (defs₀ (F := F)) 𝒱₀ (c : Thread nD τ) none) Set.univ
              (.op (.semSignal (Dev.tc n : Thread nD τ) barS a) kt) Q) := by
  subst hn ha
  iintro ⟨#HR, HO, Ht, Hs⟩
  iapply (Rounds.wp_signal 𝒱₀ EX (sched m) (c : Thread nD τ) none (dst := (fwd k c : Thread nD τ)) (κ := K (fwd k c, none))
      (d := k.rev) (by rw [duties_bar]; exact Finset.mem_univ _) (amount_bar m (fwd k c) k.rev) () O' hO)
  isplitr; · iapply (inv_at m K (fwd k c, none)); iexact HR
  isplitl [HO]; · iexact HO
  isplitl [Ht]; · iexact Ht
  isplitl [Hs]
  · rw [payload_bar]; unfold barPay; rw [fwd_rev_fwd]
    isplitl [Hs]; · iexact Hs
    iapply (reached_at m K (c, some (true, k.rev))); iexact HR
  · iapply (reached_at m K (fwd k c, none)); iexact HR

end Cert.Exchange

end
-- ==== Proof.Tail.lean ====
/-
# The part of the kernel after the exchange: one tile of the result
-/
module

public import proofs.«01_k».proof.Proof.Steps

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Values -/

/-- A block with a leading axis of one. -/
def unsq (b : Vec F S1024x1024 .fp8e5m2) : Vec F S1x1024x1024 .fp8e5m2 :=
  fun y => b ((Shape.reshapeEquiv shapeCasts_S1x1024x1024_S1024x1024).symm y)

/-- The rows of a tile of the right matrix that multiply device `d`'s columns. -/
def wrows (w : Vec F S4096x512 .fp8e5m2) (d : Dev nD) : Vec F S1024x512 .fp8e5m2 := fun y => w ((wrowR d).idx y)

/-- The one element of a scale. -/
def scal (s : Vec F S1 .f32) : Elt F .f32 := s ((Rect.unit (s := S1) ![0] S1.size inb_S1_S1_0).idx (Shape.Idx.first (by decide)))

/-- The tile of the result device `c` computes from a tile `w` of the right matrix and the scales `s` and `t`. -/
def tile (c : Dev nD) (w : Vec F S4096x512 .fp8e5m2) (s t : Vec F S1 .f32) : Vec F S1024x512 .f32 :=
  k0_pay1
    (k0_pay4 (k0_pay3 (xblk m c c) (wrows w c) (unsq (xblk m (fwd (Fin.rev 0) c) c)) (wrows w (fwd (Fin.rev 0) c)))
      (unsq (xblk m (fwd (Fin.rev 1) c) c)) (wrows w (fwd (Fin.rev 1) c)))
    (k0_pay5 (unsq (xblk m (fwd (Fin.rev 2) c) c))) (k0_pay6 (wrows w (fwd (Fin.rev 2) c)))
    (constant S1024x512 .f32 0x00000000#32) (scal s) (scal t)

/-! ## Reads -/

omit [FloatOps F] in
/-- Reading through a rectangle depends on its offsets alone. -/
theorem read_unit_congr {sp : Space} {s : Shape} {e : EltTy} (v : View sig .tc sp s e) {off off' size : Fin s.rank → ℕ}
    (h : off = off') (p : ∀ a, off a + size a ≤ s.size a) (p' : ∀ a, off' a + size a ≤ s.size a) (f : v.ty.Contents (Elt F)) :
    (v.slice (Rect.unit off size p)).read (Elt F) f = (v.slice (Rect.unit off' size p')).read (Elt F) f := by
  subst h; rfl

omit [FloatOps F] in
/-- Reading through the rectangle of everything is reading everything. -/
theorem read_all {sp : Space} {s : Shape} {e : EltTy} (v : View sig .tc sp s e) {off : Fin s.rank → ℕ}
    (h : off = fun _ => 0) (p : ∀ a, off a + s.size a ≤ s.size a) (f : v.ty.Contents (Elt F)) :
    (v.slice (Rect.unit off s.size p)).read (Elt F) f = v.read (Elt F) f := by
  subst h
  funext x
  show v.read (Elt F) f ((Rect.whole s).emb x) = _
  rw [Rect.emb_whole_apply]

omit [FloatOps F] in
/-- Reading rows of a staged tile. -/
theorem read_rows {sp : Space} (a : Memref sig .tc sp S4096x512 .fp8e5m2) {off : Fin 2 → ℕ} {d : Dev nD} (h : off = ![1024 * d.val, 0])
    (p : ∀ i, off i + S1024x512.size i ≤ S4096x512.size i) {f : a.view.ty.Contents (Elt F)} {w : Vec F S4096x512 .fp8e5m2} (hf : a.view.read (Elt F) f = w) :
    (a.access (Rect.unit (s := S4096x512) off S1024x512.size p)).read (Elt F) f = wrows w d := by
  rw [read_unit_congr a.view h p (wrow_inb d)]
  subst hf; rfl

omit [FloatOps F] in
/-- Reading a slot that holds a block. -/
theorem read_slot (k : Fin 3) {f : (slotM k).view.ty.Contents (Elt F)} {b : Vec F S1024x1024 .fp8e5m2} (hf : (slotM k).view.read (Elt F) f = b) :
    (rM.access (slotR k)).read (Elt F) f = unsq b := by
  subst hf
  funext y
  show _ = (rM.access (slotR k)).read (Elt F) f (Shape.reshapeEquiv _ ((Shape.reshapeEquiv _).symm y))
  rw [Equiv.apply_symm_apply]

/-- Two zero offsets. -/
theorem zeros2 : (![0, 0] : Fin 2 → ℕ) = fun _ => 0 := funext fun a => by fin_cases a <;> rfl
/-- One zero offset. -/
theorem zeros1 : (![0] : Fin 1 → ℕ) = fun _ => 0 := funext fun a => by fin_cases a; rfl

/-- A slot's elements are those its load reads. -/
theorem slot_sub (k : Fin 3) : rM.view.setOn (slotR k).set ⊆ (slotM k).view.set :=
  ((View.set_reshape _ _).trans (View.set_slice _ _)).ge

/-! ## The program -/

/-- The kernel after the exchange. -/
def tailProg (d0 : Dev nD) (arg2 : Memref sig .tc .vmem S4096x512 .fp8e5m2) (arg3 arg4 : Memref sig .tc .smem S1 .f32)
    (arg5 : Memref sig .tc .vmem S1024x512 .f32) : Prog (TpuEff nD τ sig (Elt F) Λ₀ .tc) PUnit :=
  .op (.load xM (Rect.unit (s := S4096x1024) (k0_off2 d0) S1024x1024.size (k0_off2_inb d0)).toLoadRect (View.loadsAt_vmem h_S1024x1024)) fun v8 =>
  .op (.load arg2 (Rect.unit (s := S4096x512) (k0_off3 d0) S1024x512.size (k0_off3_inb d0)).toLoadRect (View.loadsAt_vmem h_S1024x512)) fun v11 =>
  .op (.load rM (Rect.unit (s := S4x1024x1024) ![1, 0, 0] S1x1024x1024.size inb_S4x1024x1024_S1x1024x1024_1_0_0).toLoadRect (View.loadsAt_vmem h_S1x1024x1024)) fun v25 =>
  .op (.load arg2 (Rect.unit (s := S4096x512) (k0_off4 d0 1#32) S1024x512.size (k0_off4_inb d0 0)).toLoadRect (View.loadsAt_vmem h_S1024x512)) fun v29 =>
  .op (.load rM (Rect.unit (s := S4x1024x1024) ![2, 0, 0] S1x1024x1024.size inb_S4x1024x1024_S1x1024x1024_2_0_0).toLoadRect (View.loadsAt_vmem h_S1x1024x1024)) fun v44 =>
  .op (.load arg2 (Rect.unit (s := S4096x512) (k0_off4 d0 2#32) S1024x512.size (k0_off4_inb d0 1)).toLoadRect (View.loadsAt_vmem h_S1024x512)) fun v48 =>
  .op (.load rM (Rect.unit (s := S4x1024x1024) ![3, 0, 0] S1x1024x1024.size inb_S4x1024x1024_S1x1024x1024_3_0_0).toLoadRect (View.loadsAt_vmem h_S1x1024x1024)) fun v63 =>
  .op (.load arg2 (Rect.unit (s := S4096x512) (k0_off4 d0 3#32) S1024x512.size (k0_off4_inb d0 2)).toLoadRect (View.loadsAt_vmem h_S1024x512)) fun v67 =>
  smemLoadElt arg3 (Rect.unit (s := S1) ![0] S1.size inb_S1_S1_0) (View.loads_smem_one rfl numel1_S1) (Shape.Idx.first (numel1_S1.symm ▸ Nat.one_pos)) fun v71 =>
  smemLoadElt arg4 (Rect.unit (s := S1) ![0] S1.size inb_S1_S1_0) (View.loads_smem_one rfl numel1_S1) (Shape.Idx.first (numel1_S1.symm ▸ Nat.one_pos)) fun v72 =>
  .op (.load arg5 (Rect.unit (s := S1024x512) ![0, 0] S1024x512.size inb_S1024x512_S1024x512_0_0).toLoadRect (View.loadsAt_vmem h_S1024x512)) fun v84 =>
  .op (.store arg5 (Rect.unit (s := S1024x512) ![0, 0] S1024x512.size inb_S1024x512_S1024x512_0_0)
    (k0_pay1 (k0_pay4 (k0_pay3 v8 v11 v25 v29) v44 v48) (k0_pay5 v63) (k0_pay6 v67) (constant S1024x512 .f32 0x00000000#32) v71 v72)
    Finset.univ (View.stores_vmem_bits_univ h_S1024x512 rfl) (.inl rfl)) fun _ =>
  .ret ⟨⟩

/-- The kernel's result from what it loads is the tile. -/
theorem tile_of_loads (c : Dev nD) (w : Vec F S4096x512 .fp8e5m2) (s t : Vec F S1 .f32)
    {v8 : Vec F S1024x1024 .fp8e5m2} {v11 v29 v48 v67 : Vec F S1024x512 .fp8e5m2} {v25 v44 v63 : Vec F S1x1024x1024 .fp8e5m2} {v71 v72 : Elt F .f32}
    (h8 : v8 = xblk m c c) (h11 : v11 = wrows w c)
    (h25 : v25 = unsq (xblk m (fwd (Fin.rev 0) c) c)) (h29 : v29 = wrows w (fwd (Fin.rev 0) c))
    (h44 : v44 = unsq (xblk m (fwd (Fin.rev 1) c) c)) (h48 : v48 = wrows w (fwd (Fin.rev 1) c))
    (h63 : v63 = unsq (xblk m (fwd (Fin.rev 2) c) c)) (h67 : v67 = wrows w (fwd (Fin.rev 2) c))
    (h71 : v71 = scal s) (h72 : v72 = scal t) :
    k0_pay1 (k0_pay4 (k0_pay3 v8 v11 v25 v29) v44 v48) (k0_pay5 v63) (k0_pay6 v67) (constant S1024x512 .f32 0x00000000#32) v71 v72
      = tile m c w s t := by
  subst h8 h11 h25 h29 h44 h48 h63 h67 h71 h72; rfl

/-- What the exchange leaves a device: its columns, and the three blocks received. -/
def held (c : Dev nD) : sProp 𝕄 :=
  iprop((((c : Thread nD τ).loc cc0_scratch0) ↦{fullShare} (xin m c)) ∗ landed m c 0 ∗ landed m c 1 ∗ landed m c 2)

/-- What the body reads and leaves, besides: a tile of the right matrix, the scales, and the result's tile. -/
def staged (c : Dev nD) (arg2 : Memref sig .tc .vmem S4096x512 .fp8e5m2) (arg3 arg4 : Memref sig .tc .smem S1 .f32)
    (arg5 : Memref sig .tc .vmem S1024x512 .f32) (w : Vec F S4096x512 .fp8e5m2) (s t : Vec F S1 .f32) (o : Vec F S1024x512 .f32) : sProp 𝕄 :=
  iprop(owns (Ix := Unit) (Name := ℕ) (U := UU) (Lvl := ℕ) (c : Thread nD τ) arg2 fullShare w
    ∗ owns (Ix := Unit) (Name := ℕ) (U := UU) (Lvl := ℕ) (c : Thread nD τ) arg3 fullShare s
    ∗ owns (Ix := Unit) (Name := ℕ) (U := UU) (Lvl := ℕ) (c : Thread nD τ) arg4 fullShare t
    ∗ owns (Ix := Unit) (Name := ℕ) (U := UU) (Lvl := ℕ) (c : Thread nD τ) arg5 fullShare o)

set_option maxHeartbeats 800000 in
/-- After the exchange, one tile of the result is computed and stored. -/
theorem wp_tail (c : Dev nD) (arg2 : Memref sig .tc .vmem S4096x512 .fp8e5m2) (arg3 arg4 : Memref sig .tc .smem S1 .f32)
    (arg5 : Memref sig .tc .vmem S1024x512 .f32) (w : Vec F S4096x512 .fp8e5m2) (s t : Vec F S1 .f32) (o : Vec F S1024x512 .f32)
    (Q : PUnit → sProp 𝕄) :
    iprop(held m c ∗ staged c arg2 arg3 arg4 arg5 w s t o)
      ⊢ iprop(((held m c ∗ staged c arg2 arg3 arg4 arg5 w s t (tile m c w s t)) -∗ Q ⟨⟩)
        -∗ wp frame (wpE (defs₀ (F := F)) 𝒱₀ (c : Thread nD τ) none) Set.univ (tailProg c arg2 arg3 arg4 arg5) Q) := by
  unfold held landed staged owns tailProg smemLoadElt
  iintro ⟨⟨Hx, ⟨%f0, %h0, Hs0⟩, ⟨%f1, %h1, Hs1⟩, ⟨%f2, %h2, Hs2⟩⟩, ⟨%gw, %hw, Hw⟩, ⟨%gs, %hs, Hs⟩, ⟨%gt, %ht, Ht⟩, ⟨%go, %ho, Ho⟩⟩ Hk
  unfold slotPts
  iapply (wp_load 𝒱₀ (c : Thread nD τ) none Set.univ (m := xM) (Finset.subset_univ _)) $$ Hx; iintro Hx
  iapply (wp_load 𝒱₀ (c : Thread nD τ) none Set.univ (m := arg2) (View.setOn_subset_set _ _)) $$ Hw; iintro Hw
  iapply (wp_load 𝒱₀ (c : Thread nD τ) none Set.univ (m := rM) (S := (slotM 0).view.set) (slot_sub 0)) $$ Hs0; iintro Hs0
  iapply (wp_load 𝒱₀ (c : Thread nD τ) none Set.univ (m := arg2) (View.setOn_subset_set _ _)) $$ Hw; iintro Hw
  iapply (wp_load 𝒱₀ (c : Thread nD τ) none Set.univ (m := rM) (S := (slotM 1).view.set) (slot_sub 1)) $$ Hs1; iintro Hs1
  iapply (wp_load 𝒱₀ (c : Thread nD τ) none Set.univ (m := arg2) (View.setOn_subset_set _ _)) $$ Hw; iintro Hw
  iapply (wp_load 𝒱₀ (c : Thread nD τ) none Set.univ (m := rM) (S := (slotM 2).view.set) (slot_sub 2)) $$ Hs2; iintro Hs2
  iapply (wp_load 𝒱₀ (c : Thread nD τ) none Set.univ (m := arg2) (View.setOn_subset_set _ _)) $$ Hw; iintro Hw
  iapply (wp_load 𝒱₀ (c : Thread nD τ) none Set.univ (m := arg3) (View.setOn_subset_set _ _)) $$ Hs; iintro Hs
  iapply (wp_load 𝒱₀ (c : Thread nD τ) none Set.univ (m := arg4) (View.setOn_subset_set _ _)) $$ Ht; iintro Ht
  iapply (wp_load 𝒱₀ (c : Thread nD τ) none Set.univ (m := arg5) (View.setOn_subset_set _ _)) $$ Ho; iintro Ho
  iapply (wp_store 𝒱₀ (c : Thread nD τ) none Set.univ (m := arg5) (r := Rect.unit (s := S1024x512) ![0, 0] S1024x512.size inb_S1024x512_S1024x512_0_0) (S := arg5.view.set) (Mk := Finset.univ) (View.set_slice_subset _ _)) $$ Ho; iintro Ho
  rw [wp_ret]; imodintro
  iapply Hk
  isplitl [Hx Hs0 Hs1 Hs2]
  · isplitl [Hx]; · iexact Hx
    isplitl [Hs0]
    · iexists f0; isplitr; · (ipureintro; exact h0)
      iexact Hs0
    isplitl [Hs1]
    · iexists f1; isplitr; · (ipureintro; exact h1)
      iexact Hs1
    iexists f2; isplitr; · (ipureintro; exact h2)
    iexact Hs2
  isplitl [Hw]
  · iexists gw; isplitr; · (ipureintro; exact hw)
    iexact Hw
  isplitl [Hs]
  · iexists gs; isplitr; · (ipureintro; exact hs)
    iexact Hs
  isplitl [Ht]
  · iexists gt; isplitr; · (ipureintro; exact ht)
    iexact Ht
  iexists _
  isplitr
  rotate_left
  · iexact Ho
  ipureintro
  refine ((read_all arg5.view zeros2 _ _).symm.trans (View.read_write_univ _ _)).trans ?_
  exact tile_of_loads m c w s t
    (read_unit_congr xM.view (k0_off2_eq c) _ (row_inb c) _) (read_rows arg2 (k0_off3_eq c) _ hw)
    (read_slot 0 h0) (read_rows arg2 (off4_eq c 0) _ hw)
    (read_slot 1 h1) (read_rows arg2 (off4_eq c 1) _ hw)
    (read_slot 2 h2) (read_rows arg2 (off4_eq c 2) _ hw)
    (by subst hs; rfl) (by subst ht; rfl)

end Cert.Exchange

end
-- ==== Proof.Body.lean ====
/-
# The kernel's body, at the first point of the grid and at the later ones
-/
module

public import proofs.«01_k».proof.Proof.Tail

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Cutting the two scratch buffers -/

/-- The elements of a slot, and of the rows sent `k + 1` places on, as elements of their buffers on device `c`. -/
abbrev slotI (c : Dev nD) (k : Fin 3) : Finset (Idx ((c : Thread nD τ).loc cc0_scratch1)) := (slotM k).view.set
/-- The rows sent `k + 1` places on, as elements of the buffer. -/
abbrev rowI (c : Dev nD) (k : Fin 3) : Finset (Idx ((c : Thread nD τ).loc cc0_scratch0)) := (rowM (fwd k c)).view.set

/-- Different slots share no element. -/
theorem slotI_disjoint (c : Dev nD) (k k' : Fin 3) (h : k ≠ k') : Disjoint (slotI c k) (slotI c k') := slotM_disjoint h
/-- Rows for different devices share no element. -/
theorem rowI_disjoint (c : Dev nD) (k k' : Fin 3) (h : k ≠ k') : Disjoint (rowI c k) (rowI c k') :=
  rowM_disjoint fun e => h (fwd_inj e)

/-- The part of the landing buffer no block goes to. -/
def slotRest (c : Dev nD) : sProp 𝕄 := iprop(∃ f, ((c : Thread nD τ).loc cc0_scratch1) ↦[Ring.restOf (slotI c)]{fullShare} f)
/-- The rows of a device's own columns that it keeps. -/
def rowRest (c : Dev nD) : sProp 𝕄 := ((c : Thread nD τ).loc cc0_scratch0) ↦[Ring.restOf (rowI c)]{fullShare} (xin m c)

omit [FloatOps F] in
/-- The landing buffer is its three slots and the rest. -/
theorem slots_split (c : Dev nD) : (iprop(∃ f, ((c : Thread nD τ).loc cc0_scratch1) ↦{fullShare} f) : sProp 𝕄)
    ⊢ iprop(((∃ f, slotPts c 0 f) ∗ (∃ f, slotPts c 1 f) ∗ (∃ f, slotPts c 2 f)) ∗ slotRest c) := by
  refine (Ring.fam_split_ex (slotI c) (slotI_disjoint c)).trans ?_
  rw [bigSep_three]; unfold slotRest slotPts; exact BI.Entails.refl _

omit [FloatOps F] in
/-- The three slots and the rest are the landing buffer. -/
theorem slots_join (c : Dev nD) (f₀ : Buf (Elt F) ((c : Thread nD τ).loc cc0_scratch1)) :
    iprop(((∃ f, slotPts c 0 f) ∗ (∃ f, slotPts c 1 f) ∗ (∃ f, slotPts c 2 f)) ∗ slotRest c)
      ⊢ (iprop(∃ f, ((c : Thread nD τ).loc cc0_scratch1) ↦{fullShare} f) : sProp 𝕄) := by
  refine BIBase.Entails.trans ?_ (Ring.fam_join (slotI c) (slotI_disjoint c) f₀)
  rw [bigSep_three]; unfold slotRest slotPts; exact BI.Entails.refl _

omit [FloatOps F] in
/-- The copy of the columns is the rows for the three other devices and the rest. -/
theorem rows_eq (c : Dev nD) : ((((c : Thread nD τ).loc cc0_scratch0) ↦{fullShare} (xin m c)) : sProp 𝕄)
    = iprop((rowPts m c (fwd 0 c) ∗ rowPts m c (fwd 1 c) ∗ rowPts m c (fwd 2 c)) ∗ rowRest m c) := by
  have h1 := pointsTo_split_subset (Ix := Unit) (Name := ℕ) (U := UU) (Lvl := ℕ) (ℓ := (c : Thread nD τ).loc cc0_scratch0) (q := fullShare) (f := xin m c)
    (Finset.subset_univ (Finset.univ.biUnion (rowI c)))
  have h2 := pointsTo_biUnion (Ix := Unit) (Name := ℕ) (U := UU) (Lvl := ℕ) (ℓ := (c : Thread nD τ).loc cc0_scratch0) (q := fullShare) (f := xin m c)
    Finset.univ (rowI c) (fun b _ b' _ h => rowI_disjoint c b b' h)
  rw [h2, bigSep_three] at h1
  refine (BI.equiv_iff.mp ⟨h1.1, h1.2⟩).trans ?_
  unfold rowPts rowRest; rfl

/-! ## The body at the first point -/

omit [FloatOps F] in
/-- The copy of the columns changes nothing. -/
theorem pay2_eq (v : Vec F S4096x1024 .fp8e5m2) : k0_pay2 v = v := by
  funext i
  show v (Shape.reshapeEquiv _ (Shape.reshapeEquiv _ i)) = v i
  rw [Shape.reshapeEquiv_self, Shape.reshapeEquiv_self]

/-- The kernel at a point of the grid. -/
abbrev bodyProg (i : grid0.Coords) (arg1 : Memref sig .tc .vmem S4096x1024 .fp8e5m2) (h1 : arg1.IsWhole)
    (arg2 : Memref sig .tc .vmem S4096x512 .fp8e5m2) (h2 : arg2.IsWhole) (arg3 : Memref sig .tc .smem S1 .f32) (h3 : arg3.IsWhole)
    (arg4 : Memref sig .tc .smem S1 .f32) (h4 : arg4.IsWhole) (arg5 : Memref sig .tc .vmem S1024x512 .f32) (h5 : arg5.IsWhole) :
    Prog (TpuEff nD τ sig (Elt F) Λ₀ .tc) PUnit :=
  cc0_body i arg1 h1 arg2 h2 arg3 h3 arg4 h4 arg5 h5 (Memref.whole cc0_scratch0) (Memref.isWhole_whole _)
    (Memref.whole cc0_scratch1) (Memref.isWhole_whole _) cc0_scratch2 cc0_scratch3

section Body
variable (i : grid0.Coords) (c : Dev nD) (arg1 : Memref sig .tc .vmem S4096x1024 .fp8e5m2) (ha1 : arg1.IsWhole)
  (arg2 : Memref sig .tc .vmem S4096x512 .fp8e5m2) (ha2 : arg2.IsWhole) (arg3 : Memref sig .tc .smem S1 .f32) (ha3 : arg3.IsWhole)
  (arg4 : Memref sig .tc .smem S1 .f32) (ha4 : arg4.IsWhole) (arg5 : Memref sig .tc .vmem S1024x512 .f32) (ha5 : arg5.IsWhole)
  (w : Vec F S4096x512 .fp8e5m2) (s t : Vec F S1 .f32) (o : Vec F S1024x512 .f32)

/-- At the later points the body is the part after the exchange. -/
theorem wp_body_later (hi : ¬ k0_cond1 i = 1#1) (Q : PUnit → sProp 𝕄) :
    iprop(held m c ∗ staged c arg2 arg3 arg4 arg5 w s t o)
      ⊢ iprop(((held m c ∗ staged c arg2 arg3 arg4 arg5 w s t (tile m c w s t)) -∗ Q ⟨⟩)
        -∗ wp frame (wpE (defs₀ (F := F)) 𝒱₀ (c : Thread nD τ) none) Set.univ (bodyProg i arg1 ha1 arg2 ha2 arg3 ha3 arg4 ha4 arg5 ha5) Q) := by
  unfold bodyProg
  simp only [cc0_body_eq_skeleton]; unfold cc0_body_skel
  simp only [k0_part5_eq_skeleton, k0_part6_eq_skeleton]; unfold k0_part5_skel k0_part6_skel
  simp only [dif_neg hi, Prog.lift, Prog.bind_op, Prog.bind_ret, Prog.pure_eq_ret, wp_deviceId]
  exact wp_tail m c arg2 arg3 arg4 arg5 w s t o Q

/-- What the first point starts from besides the staged tiles, -/
def before (K : Dev nD × Which → ℕ) : sProp 𝕄 :=
  iprop(ghost m K c ∗ credits c ∗ levAts L lv
    ∗ (∃ f, ((c : Thread nD τ).loc cc0_scratch0) ↦{fullShare} f) ∗ (∃ f, ((c : Thread nD τ).loc cc0_scratch1) ↦{fullShare} f)
    ∗ (∃ W, owes (c : Thread nD τ) (O₀ c) W))
/-- and what it leaves. -/
def after : sProp 𝕄 := iprop(held m c ∗ slotRest c ∗ closed c ∗ ∃ W, owes (c : Thread nD τ) 0 W)

set_option maxHeartbeats 2000000 in
/-- The body at the first point: the exchange, then the tile. -/
theorem wp_body_first (K : Dev nD × Which → ℕ) (hi : k0_cond1 i = 1#1) (Q : PUnit → sProp 𝕄) :
    iprop(before m c K ∗ owns (c : Thread nD τ) arg1 fullShare (xin m c) ∗ staged c arg2 arg3 arg4 arg5 w s t o)
      ⊢ iprop(((after m c ∗ owns (c : Thread nD τ) arg1 fullShare (xin m c) ∗ staged c arg2 arg3 arg4 arg5 w s t (tile m c w s t)) -∗ Q ⟨⟩)
        -∗ wp frame (wpE (defs₀ (F := F)) 𝒱₀ (c : Thread nD τ) none) Set.univ (bodyProg i arg1 ha1 arg2 ha2 arg3 ha3 arg4 ha4 arg5 ha5) Q) := by
  unfold bodyProg
  simp only [cc0_body_eq_skeleton]; unfold cc0_body_skel
  simp only [k0_part5_eq_skeleton, k0_part6_eq_skeleton]; unfold k0_part5_skel k0_part6_skel
  simp only [k0_part1_eq_skeleton, k0_part2_eq_skeleton, k0_part3_eq_skeleton, k0_part4_eq_skeleton]
  unfold k0_part1_skel k0_part2_skel k0_part3_skel k0_part4_skel
  simp only [dif_pos hi, semSignalWord, semWaitWord, Prog.lift, Prog.bind_op, Prog.bind_ret, Prog.pure_eq_ret, wp_deviceId]
  unfold before ghost places payToks credits owns
  simp only [bigSep_three]
  iintro ⟨⟨⟨#HR, ⟨HatB, ⟨HatS0, HatS1, HatS2⟩, HatV0, HatV1, HatV2⟩, ⟨HtB0, HtB1, HtB2⟩, ⟨HtS0, HtS1, HtS2⟩, HtV0, HtV1, HtV2⟩,
    ⟨HcB, HcV0, HcV1, HcV2⟩, #Hlev, ⟨%fx, Hx⟩, Hr, ⟨%W, HO⟩⟩, ⟨%g1, %hg1, H1⟩, Hst⟩ Hk
  ihave Hr' := (slots_split c) $$ Hr
  icases Hr' with ⟨⟨Hl0, Hl1, Hl2⟩, Hrest⟩
  unfold O₀
  iapply (wp_signal_peer m K c _ 0 (Fin.ext (dev1_eq c)) (by decide) _ _ rfl W) $$ [HO HtB0 Hl2]
  · isplitr; · iexact HR
    isplitl [HO]; · iexact HO
    isplitl [HtB0]; · iexact HtB0
    iexact Hl2
  iintro HO
  iapply (wp_signal_peer m K c _ 1 (Fin.ext (dev2_eq c)) (by decide) _ _ rfl W) $$ [HO HtB1 Hl1]
  · isplitr; · iexact HR
    isplitl [HO]; · iexact HO
    isplitl [HtB1]; · iexact HtB1
    iexact Hl1
  iintro HO
  iapply (wp_signal_peer m K c _ 2 (Fin.ext (dev3_eq c)) (by decide) _ _ rfl W) $$ [HO HtB2 Hl0]
  · isplitr; · iexact HR
    isplitl [HO]; · iexact HO
    isplitl [HtB2]; · iexact HtB2
    iexact Hl0
  iintro HO
  iapply (Rounds.wp_wait_rest_token 𝒱₀ EX (sched m) (c : Thread nD τ) none (κ := K (c, none))
      (wpE_semWait_eq 𝒱₀ (c : Thread nD τ) none Set.univ) (Set.mem_univ _) () (O := OR c) (W := W) (R := 0) (m := 0) (T := ∅)
      (by rw [expect_bar]; decide)) $$ [HcB HO HatB]
  · isplitr; · iapply (inv_at m K (c, none)); iexact HR
    isplitl [HcB]; · iexact HcB
    isplitl [HO]; · iexact HO
    isplitr; · iapply (mayWait_bar c); iexact Hlev
    iexact HatB
  iintro ⟨HO, HatB, -, Hpay⟩
  ihave Hp := (Entails.of_eq (rest_bar m c)) $$ Hpay
  unfold barPay
  icases Hp with ⟨⟨Hd0, -⟩, ⟨Hd1, -⟩, Hd2, -⟩
  imod (Rounds.cell_close EX (sched m) (Set.mem_univ (K (c, none))) (fun h => h) (R := 0 + 1) (duties_later m (barCell c))) $$ [HatB] with HzB
  · isplitr; · iapply (inv_at m K (c, none)); iexact HR
    iexact HatB
  iapply (wp_load 𝒱₀ (c : Thread nD τ) none Set.univ (m := arg1) (View.setOn_subset_set _ _)) $$ H1; iintro H1
  iapply (wp_load 𝒱₀ (c : Thread nD τ) none Set.univ (m := xM) (Finset.subset_univ _)) $$ Hx; iintro Hx
  iapply (wp_store 𝒱₀ (c : Thread nD τ) none Set.univ (m := xM) (r := Rect.unit (s := S4096x1024) ![0, 0] S4096x1024.size inb_S4096x1024_S4096x1024_0_0)
    (Mk := Finset.univ) (Finset.subset_univ _)) $$ Hx; iintro Hx
  have hx : (xM.access (Rect.unit (s := S4096x1024) ![0, 0] S4096x1024.size inb_S4096x1024_S4096x1024_0_0)).write (Elt F) fx
      (k0_pay2 (arg1.view.readAt (Elt F) (Rect.unit (s := S4096x1024) ![0, 0] S4096x1024.size inb_S4096x1024_S4096x1024_0_0).toLoadRect g1)) Finset.univ = xin m c := by
    refine (Memref.write_access_unit_zero_univ (Elt F) cc0_scratch0 zeros2 _ fx _).trans ?_
    rw [pay2_eq]
    exact (read_all arg1.view zeros2 _ g1).trans hg1
  rw [hx]
  ihave Hxs := (Entails.of_eq (rows_eq m c)) $$ Hx
  icases Hxs with ⟨⟨Hrow0, Hrow1, Hrow2⟩, Hkeep⟩
  iapply (wp_send_block m K c _ 0 (Fin.ext (dev4_eq c)) (srcM_eq c 0 _ _) (OR c) (tR c 2 + tR c 1) rfl _) $$ [Hrow0 Hd0 HO HtS0 HtV0]
  · isplitr; · iexact HR
    isplitl [Hrow0]; · iexact Hrow0
    isplitl [Hd0]; · iexact Hd0
    isplitl [HO]; · iexact HO
    isplitl [HtS0]; · iexact HtS0
    iexact HtV0
  iintro ⟨HcS0, HO⟩
  iapply (wp_send_block m K c _ 1 (Fin.ext (dev5_eq c)) (srcM_eq c 1 _ _) (tR c 2 + tR c 1) (tR c 2) rfl _) $$ [Hrow1 Hd1 HO HtS1 HtV1]
  · isplitr; · iexact HR
    isplitl [Hrow1]; · iexact Hrow1
    isplitl [Hd1]; · iexact Hd1
    isplitl [HO]; · iexact HO
    isplitl [HtS1]; · iexact HtS1
    iexact HtV1
  iintro ⟨HcS1, HO⟩
  iapply (wp_send_block m K c _ 2 (Fin.ext (dev6_eq c)) (srcM_eq c 2 _ _) (tR c 2) 0 (zero_add _).symm _) $$ [Hrow2 Hd2 HO HtS2 HtV2]
  · isplitr; · iexact HR
    isplitl [Hrow2]; · iexact Hrow2
    isplitl [Hd2]; · iexact Hd2
    isplitl [HO]; · iexact HO
    isplitl [HtS2]; · iexact HtS2
    iexact HtV2
  iintro ⟨HcS2, HO⟩
  iapply (wp_wait_send m K c 0 (srcM_eq c 0 _ _) _) $$ [HcS0 HO HatS0]
  · isplitr; · iexact HR
    isplitl [HcS0]; · iexact HcS0
    isplitl [HO]; · iexact HO
    iexact HatS0
  iintro ⟨⟨%WS0, HO⟩, Hrow0, HzS0⟩
  iapply (wp_wait_recv m K c 0 WS0) $$ [HcV0 HO HatV0]
  · isplitr; · iexact HR
    isplitl [HcV0]; · iexact HcV0
    isplitl [HO]; · iexact HO
    iexact HatV0
  iintro ⟨⟨%WV0, HO⟩, Hland0, HzV0⟩
  iapply (wp_wait_send m K c 1 (srcM_eq c 1 _ _) WV0) $$ [HcS1 HO HatS1]
  · isplitr; · iexact HR
    isplitl [HcS1]; · iexact HcS1
    isplitl [HO]; · iexact HO
    iexact HatS1
  iintro ⟨⟨%WS1, HO⟩, Hrow1, HzS1⟩
  iapply (wp_wait_recv m K c 1 WS1) $$ [HcV1 HO HatV1]
  · isplitr; · iexact HR
    isplitl [HcV1]; · iexact HcV1
    isplitl [HO]; · iexact HO
    iexact HatV1
  iintro ⟨⟨%WV1, HO⟩, Hland1, HzV1⟩
  iapply (wp_wait_send m K c 2 (srcM_eq c 2 _ _) WV1) $$ [HcS2 HO HatS2]
  · isplitr; · iexact HR
    isplitl [HcS2]; · iexact HcS2
    isplitl [HO]; · iexact HO
    iexact HatS2
  iintro ⟨⟨%WS2, HO⟩, Hrow2, HzS2⟩
  iapply (wp_wait_recv m K c 2 WS2) $$ [HcV2 HO HatV2]
  · isplitr; · iexact HR
    isplitl [HcV2]; · iexact HcV2
    isplitl [HO]; · iexact HO
    iexact HatV2
  iintro ⟨⟨%WV2, HO⟩, Hland2, HzV2⟩
  ihave Hx := (Entails.of_eq (rows_eq m c).symm) $$ [Hrow0 Hrow1 Hrow2 Hkeep]
  · isplitl [Hrow0 Hrow1 Hrow2]
    · isplitl [Hrow0]; · iexact Hrow0
      isplitl [Hrow1]; · iexact Hrow1
      iexact Hrow2
    iexact Hkeep
  iapply (wp_tail m c arg2 arg3 arg4 arg5 w s t o Q) $$ [Hx Hland0 Hland1 Hland2 Hst]
  · isplitl [Hx Hland0 Hland1 Hland2]
    · unfold held
      isplitl [Hx]; · iexact Hx
      isplitl [Hland0]; · iexact Hland0
      isplitl [Hland1]; · iexact Hland1
      iexact Hland2
    iexact Hst
  iintro ⟨Hheld, Hst⟩
  iapply Hk
  isplitr [H1 Hst]
  · unfold after closed
    simp only [bigSep_three]
    isplitl [Hheld]; · iexact Hheld
    isplitl [Hrest]; · iexact Hrest
    isplitr [HO]
    · isplitl [HzB]; · iexact HzB
      isplitl [HzS0 HzS1 HzS2]
      · isplitl [HzS0]; · iexact HzS0
        isplitl [HzS1]; · iexact HzS1
        iexact HzS2
      isplitl [HzV0]; · iexact HzV0
      isplitl [HzV1]; · iexact HzV1
      iexact HzV2
    · iexists WV2; iexact HO
  isplitl [H1]
  · iexists g1
    isplitr
    · ipureintro; exact hg1
    · iexact H1
  iexact Hst

end Body

end Cert.Exchange

end
-- ==== Proof.Grid.lean ====
/-
# The points of the grid: what is held before and after each, and the body at each
-/
module

public import proofs.«01_k».proof.Proof.Body

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The exchange happens at the grid's first point only. -/
theorem first_iff : ∀ t : Fin cfg0.N, k0_cond1 (grid0.coords t) = 1#1 ↔ t.val = 0 :=
  (by decide : ∀ t : Fin grid0.N, k0_cond1 (grid0.coords t) = 1#1 ↔ t.val = 0)

/-- What is held before a point: at the first, what the exchange starts from; later, what it left. -/
def invAt (c : Dev nD) : ℕ → sProp 𝕄
  | 0 => iprop(start m c ∗ (∃ f, ((c : Thread nD τ).loc cc0_scratch0) ↦{fullShare} f) ∗ (∃ f, ((c : Thread nD τ).loc cc0_scratch1) ↦{fullShare} f))
  | _ + 1 => iprop(held m c ∗ slotRest c ∗ closed c)

/-- The tile of the result computed at a point. -/
def outTile (c : Dev nD) (t : Fin cfg0.N) : Vec F S1024x512 .f32 := tile m c (iblk m c (1 : Fin 5) t) (iblk m c (2 : Fin 5) t) (iblk m c (3 : Fin 5) t)

/-- The run's data: the arrays as launched, the tiles as each point leaves them. -/
def dats (_ : Fin 1) (c : Dev nD) : Dat τ (Elt F) Unit ℕ UU ℕ cfg0 c where
  A w := (s₀ m ρ).mem ((cfg0.win w).arr.view.loc (c : Thread nD τ))
  after w t := match w with
    | ⟨0, _⟩ => iblk m c (0 : Fin 5) t
    | ⟨1, _⟩ => iblk m c (1 : Fin 5) t
    | ⟨2, _⟩ => iblk m c (2 : Fin 5) t
    | ⟨3, _⟩ => iblk m c (3 : Fin 5) t
    | ⟨4, _⟩ => outTile m c t
  Φ t := invAt m c t.val
  q _ := fullShare
  owed t := if t.val = 0 then O₀ c else 0

/-- A product over the five windows, written out. -/
theorem bigSep_win (Φ : Fin cfg0.W → sProp 𝕄) :
    bigSep Finset.univ Φ = iprop(Φ (0 : Fin 5) ∗ Φ (1 : Fin 5) ∗ Φ (2 : Fin 5) ∗ Φ (3 : Fin 5) ∗ Φ (4 : Fin 5)) := bigSep_W0 Φ

/-- An input's tile is in its buffer at every point. -/
theorem before_0 (c : Dev nD) (t : Fin cfg0.N) (d) : (dats m ρ 0 c).before (0 : Fin 5) t d = iblk m c (0 : Fin 5) t :=
  ((dats m ρ 0 c).before_in_eq_fetched (0 : Fin 5) rfl (fun _ => rfl) (fun _ _ _ => rfl) (fun _ => rfl) t d).trans rfl
/-- The same of the right matrix, -/
theorem before_1 (c : Dev nD) (t : Fin cfg0.N) (d) : (dats m ρ 0 c).before (1 : Fin 5) t d = iblk m c (1 : Fin 5) t :=
  ((dats m ρ 0 c).before_in_eq_fetched (1 : Fin 5) rfl (fun _ => rfl) (fun _ _ _ => rfl) (fun _ => rfl) t d).trans rfl
/-- of the first scale, -/
theorem before_2 (c : Dev nD) (t : Fin cfg0.N) (d) : (dats m ρ 0 c).before (2 : Fin 5) t d = iblk m c (2 : Fin 5) t :=
  ((dats m ρ 0 c).before_in_eq_fetched (2 : Fin 5) rfl (fun _ => rfl) (fun _ _ _ => rfl) (fun _ => rfl) t d).trans rfl
/-- and of the second. -/
theorem before_3 (c : Dev nD) (t : Fin cfg0.N) (d) : (dats m ρ 0 c).before (3 : Fin 5) t d = iblk m c (3 : Fin 5) t :=
  ((dats m ρ 0 c).before_in_eq_fetched (3 : Fin 5) rfl (fun _ => rfl) (fun _ _ _ => rfl) (fun _ => rfl) t d).trans rfl

/-- What the body leaves after a point. -/
def left (c : Dev nD) (t : Fin cfg0.N) : sProp 𝕄 :=
  iprop((held m c ∗ slotRest c ∗ closed c) ∗ (∃ W, owes (c : Thread nD τ) 0 W)
    ∗ owns (c : Thread nD τ) ((cfg0.win (0 : Fin 5)).stage (cfg0.slots t (0 : Fin 5))) fullShare (iblk m c (0 : Fin 5) t)
    ∗ staged c ((cfg0.win (1 : Fin 5)).stage (cfg0.slots t (1 : Fin 5))) ((cfg0.win (2 : Fin 5)).stage (cfg0.slots t (2 : Fin 5)))
        ((cfg0.win (3 : Fin 5)).stage (cfg0.slots t (3 : Fin 5))) ((cfg0.win (4 : Fin 5)).stage (cfg0.slots t (4 : Fin 5)))
        (iblk m c (1 : Fin 5) t) (iblk m c (2 : Fin 5) t) (iblk m c (3 : Fin 5) t) (outTile m c t))

/-- The body takes what is held before a point to what is held after it. -/
theorem body_point (c : Dev nD) (t : Fin cfg0.N) (o : Vec F S1024x512 .f32) :
    iprop(invAt m c t.val ∗ (∃ W, owes (c : Thread nD τ) (if t.val = 0 then O₀ c else 0) W)
      ∗ owns (c : Thread nD τ) ((cfg0.win (0 : Fin 5)).stage (cfg0.slots t (0 : Fin 5))) fullShare (iblk m c (0 : Fin 5) t)
      ∗ staged c ((cfg0.win (1 : Fin 5)).stage (cfg0.slots t (1 : Fin 5))) ((cfg0.win (2 : Fin 5)).stage (cfg0.slots t (2 : Fin 5)))
        ((cfg0.win (3 : Fin 5)).stage (cfg0.slots t (3 : Fin 5))) ((cfg0.win (4 : Fin 5)).stage (cfg0.slots t (4 : Fin 5)))
        (iblk m c (1 : Fin 5) t) (iblk m c (2 : Fin 5) t) (iblk m c (3 : Fin 5) t) o)
      ⊢ wp frame (wpE (defs₀ (F := F)) 𝒱₀ (c : Thread nD τ) none) Set.univ (bodyAt0 t) (fun _ => left m c t) := by
  rcases t with ⟨_ | n, ht⟩
  · rw [if_pos rfl]
    have hi := (first_iff ⟨0, ht⟩).mpr rfl
    unfold invAt start
    iintro ⟨⟨⟨⟨%K, Hg⟩, Hc, Hl⟩, Hx, Hr⟩, HO, H1, Hst⟩
    iapply (wp_body_first m _ c _ (hstage0_0 ((cfg0.slots ⟨0, ht⟩ (0 : Fin 5)).cast nbuf0_0)) _ (hstage0_1 ((cfg0.slots ⟨0, ht⟩ (1 : Fin 5)).cast nbuf0_1))
      _ (hstage0_2 ((cfg0.slots ⟨0, ht⟩ (2 : Fin 5)).cast nbuf0_2)) _ (hstage0_3 ((cfg0.slots ⟨0, ht⟩ (3 : Fin 5)).cast nbuf0_3))
      _ (hstage0_4 ((cfg0.slots ⟨0, ht⟩ (4 : Fin 5)).cast nbuf0_4)) _ _ _ o K hi) $$ [Hg Hc Hl Hx Hr HO H1 Hst]
    · isplitl [Hg Hc Hl Hx Hr HO]
      · unfold before
        isplitl [Hg]; · iexact Hg
        isplitl [Hc]; · iexact Hc
        isplitl [Hl]; · iexact Hl
        isplitl [Hx]; · iexact Hx
        isplitl [Hr]; · iexact Hr
        iexact HO
      isplitl [H1]; · iexact H1
      iexact Hst
    unfold after left
    iintro ⟨⟨Hh, Hs, Hz, HO⟩, H1, Hst⟩
    isplitl [Hh Hs Hz]
    · isplitl [Hh]; · iexact Hh
      isplitl [Hs]; · iexact Hs
      iexact Hz
    isplitl [HO]; · iexact HO
    isplitl [H1]; · iexact H1
    iexact Hst
  · rw [if_neg (Nat.succ_ne_zero n)]
    have hi : ¬ k0_cond1 (grid0.coords ⟨n + 1, ht⟩) = 1#1 := fun h => Nat.succ_ne_zero n ((first_iff ⟨n + 1, ht⟩).mp h)
    unfold invAt left
    iintro ⟨⟨Hh, Hs, Hz⟩, HO, H1, Hst⟩
    iapply (wp_body_later m _ c _ (hstage0_0 ((cfg0.slots ⟨n + 1, ht⟩ (0 : Fin 5)).cast nbuf0_0)) _ (hstage0_1 ((cfg0.slots ⟨n + 1, ht⟩ (1 : Fin 5)).cast nbuf0_1))
      _ (hstage0_2 ((cfg0.slots ⟨n + 1, ht⟩ (2 : Fin 5)).cast nbuf0_2)) _ (hstage0_3 ((cfg0.slots ⟨n + 1, ht⟩ (3 : Fin 5)).cast nbuf0_3))
      _ (hstage0_4 ((cfg0.slots ⟨n + 1, ht⟩ (4 : Fin 5)).cast nbuf0_4)) _ _ _ o hi) $$ [Hh Hst]
    · isplitl [Hh]; · iexact Hh
      iexact Hst
    iintro ⟨Hh, Hst⟩
    isplitl [Hh Hs Hz]
    · isplitl [Hh]; · iexact Hh
      isplitl [Hs]; · iexact Hs
      iexact Hz
    isplitl [HO]; · iexact HO
    isplitl [H1]; · iexact H1
    iexact Hst

set_option maxRecDepth 4000 in
/-- The body's duty at every point. -/
theorem body_obligation (c : Dev nD) : BodyObligation (dats (F := F) m ρ 0 c) (defs₀ (F := F)) 𝒱₀ () Set.univ := fun t => by
  rw [bigSep_win, bigSep_win]
  show iprop(invAt m c t.val ∗ (dats m ρ 0 c).owesAt () t.castSucc
      ∗ (∃ d, owns (c : Thread nD τ) ((cfg0.win (0 : Fin 5)).stage (cfg0.slots t (0 : Fin 5))) fullShare ((dats m ρ 0 c).before (0 : Fin 5) t d))
      ∗ (∃ d, owns (c : Thread nD τ) ((cfg0.win (1 : Fin 5)).stage (cfg0.slots t (1 : Fin 5))) fullShare ((dats m ρ 0 c).before (1 : Fin 5) t d))
      ∗ (∃ d, owns (c : Thread nD τ) ((cfg0.win (2 : Fin 5)).stage (cfg0.slots t (2 : Fin 5))) fullShare ((dats m ρ 0 c).before (2 : Fin 5) t d))
      ∗ (∃ d, owns (c : Thread nD τ) ((cfg0.win (3 : Fin 5)).stage (cfg0.slots t (3 : Fin 5))) fullShare ((dats m ρ 0 c).before (3 : Fin 5) t d))
      ∗ (∃ d, owns (c : Thread nD τ) ((cfg0.win (4 : Fin 5)).stage (cfg0.slots t (4 : Fin 5))) fullShare ((dats m ρ 0 c).before (4 : Fin 5) t d)))
    ⊢ wp frame (wpE (defs₀ (F := F)) 𝒱₀ c none) Set.univ (bodyAt0 t) (fun _ =>
      iprop(invAt m c (t.val + 1) ∗ (dats m ρ 0 c).owesAt () t.succ
        ∗ owns (c : Thread nD τ) ((cfg0.win (0 : Fin 5)).stage (cfg0.slots t (0 : Fin 5))) fullShare (iblk m c (0 : Fin 5) t)
        ∗ staged c ((cfg0.win (1 : Fin 5)).stage (cfg0.slots t (1 : Fin 5))) ((cfg0.win (2 : Fin 5)).stage (cfg0.slots t (2 : Fin 5)))
        ((cfg0.win (3 : Fin 5)).stage (cfg0.slots t (3 : Fin 5))) ((cfg0.win (4 : Fin 5)).stage (cfg0.slots t (4 : Fin 5)))
        (iblk m c (1 : Fin 5) t) (iblk m c (2 : Fin 5) t) (iblk m c (3 : Fin 5) t) (outTile m c t)))
  simp only [before_0, before_1, before_2, before_3]
  unfold Dat.owesAt Pipeline.owesWithin
  iintro ⟨Hi, ⟨%W, %hW, HO⟩, ⟨%d0, H0⟩, ⟨%d1, H1⟩, ⟨%d2, H2⟩, ⟨%d3, H3⟩, ⟨%d4, H4⟩⟩
  ihave Hwp := (body_point m c t ((dats m ρ 0 c).before (4 : Fin 5) t d4)) $$ [Hi HO H0 H1 H2 H3 H4]
  · isplitl [Hi]; · iexact Hi
    isplitl [HO]; · iexists W; iexact HO
    isplitl [H0]; · iexact H0
    unfold staged
    isplitl [H1]; · iexact H1
    isplitl [H2]; · iexact H2
    isplitl [H3]; · iexact H3
    iexact H4
  iapply (wp_wand _ _ _) $$ Hwp
  iintro %_ H
  unfold left
  icases H with ⟨Hi, ⟨%W', HO⟩, H0, Hst⟩
  isplitl [Hi]; · unfold invAt; iexact Hi
  isplitl [HO]
  · iexists W'
    isplitr
    · ipureintro; exact fun _ _ => Or.inl trivial
    iexact HO
  isplitl [H0]; · iexact H0
  iexact Hst

end Cert.Exchange

end
-- ==== Proof.Deal.lean ====
/-
# The ghost state dealt to the devices at launch, and the credit they start with
-/
module

public import proofs.«01_k».proof.Proof.Body

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What is minted -/

/-- The semaphore a duty is on, and the duty's name: the barrier has three, a send and a receive one each. -/
abbrev dutyAt : Option Bool → Fin 3 → Which
  | none, _ => none
  | some b, k => some (b, k)

/-- The duty behind a token of each kind. -/
abbrev dutyOf : Option Bool → Fin 3 → Fin 3
  | none, k => k
  | some _, _ => 0

/-- The token of a device, a kind and a place. -/
abbrev tokOf (x : Dev nD × Option Bool × Fin 3) : GSem nD τ sig × ℕ × Fin 3 := (kcell (x.1, dutyAt x.2.1 x.2.2), 0, dutyOf x.2.1 x.2.2)

/-- Different devices, kinds or places have different tokens. -/
theorem tokOf_injective : Function.Injective tokOf := by
  rintro ⟨c, a, k⟩ ⟨c', a', k'⟩ h
  have h1 : (c, dutyAt a k) = (c', dutyAt a' k') := kcell_injective (congrArg Prod.fst h)
  have h2 : dutyOf a k = dutyOf a' k' := congrArg (fun x : GSem nD τ sig × ℕ × Fin 3 => x.2.2) h
  have h3 : c = c' := congrArg Prod.fst h1
  have h4 : dutyAt a k = dutyAt a' k' := congrArg Prod.snd h1
  subst h3
  have h5 : a = a' ∧ k = k' := by clear h h1; revert a a' k k'; decide
  rw [h5.1, h5.2]

/-- The cells of the exchange. -/
def xcells : Finset (GSem nD τ sig) := Finset.univ.map ⟨kcell, kcell_injective⟩
/-- The tokens of the exchange. -/
def xtoks : Finset (GSem nD τ sig × ℕ × Fin 3) := Finset.univ.map ⟨tokOf, tokOf_injective⟩

/-- The duties of device `c`'s own semaphores. -/
def ownToks (c : Dev nD) : sProp 𝕄 :=
  iprop((bigSep Finset.univ fun k : Fin 3 => dutyTok EX (barCell c) 0 k)
    ∗ (bigSep Finset.univ fun k : Fin 3 => dutyTok EX (sendCell c k) 0 0)
    ∗ bigSep Finset.univ fun k : Fin 3 => dutyTok EX (recvCell c k) 0 0)

/-- What each device gets of what is minted. -/
def G (c : Dev nD) : sProp 𝕄 :=
  iprop((bigSep Finset.univ fun w : Which => roundState EX (sched m) (kcell (c, w)) 0)
    ∗ ((bigSep Finset.univ fun w : Which => atPos EX (kcell (c, w)) 0 ∅ 0) ∗ bigSep Finset.univ fun w : Which => reached EX (kcell (c, w)) 0)
    ∗ ownToks c)
/-- What it has of it once the semaphores follow the schedule. -/
def G' (c : Dev nD) : sProp 𝕄 := iprop(∃ K, ghost m K c)

omit [FloatOps F] in
/-- A product over the seven semaphores, written out by kind. -/
theorem bigSep_which (Φ : Which → sProp 𝕄) : bigSep Finset.univ Φ
    = iprop(Φ none ∗ Φ (some (false, 0)) ∗ Φ (some (false, 1)) ∗ Φ (some (false, 2)) ∗ Φ (some (true, 0)) ∗ Φ (some (true, 1)) ∗ Φ (some (true, 2))) :=
  bigSep_univ_eq_bigSepL [none, some (false, 0), some (false, 1), some (false, 2), some (true, 0), some (true, 1), some (true, 2)] (by decide) (by decide) Φ
omit [FloatOps F] in
/-- A product over the three kinds, written out. -/
theorem bigSep_kinds (Φ : Option Bool → sProp 𝕄) : bigSep Finset.univ Φ = iprop(Φ none ∗ Φ (some false) ∗ Φ (some true)) :=
  bigSep_univ_eq_bigSepL [none, some false, some true] (by decide) (by decide) Φ

omit [FloatOps F] in
/-- From the initial ghost state, every device gets its own. -/
theorem mint : BI.own (EX (initOf xcells xtoks)) ⊢ (|==> bigSep Finset.univ (G m) : sProp 𝕄) := by
  have hX (Φ : GSem nD τ sig → sProp 𝕄) : bigSep xcells Φ = bigSep Finset.univ fun c : Dev nD => bigSep Finset.univ fun w : Which => Φ (kcell (c, w)) := by
    unfold xcells; rw [bigSep_map, bigSep_univ_prod]; rfl
  have hT : bigSep xtoks (fun x => (dutyTok EX x.1 x.2.1 x.2.2 : sProp 𝕄)) = bigSep Finset.univ fun c : Dev nD => ownToks c := by
    unfold xtoks; rw [bigSep_map, bigSep_univ_prod]
    refine bigSep_congr fun c _ => ?_
    unfold ownToks; rw [bigSep_univ_prod, bigSep_kinds]; rfl
  iintro H
  imod (Rounds.fund EX (sched m) xcells xtoks) $$ H with ⟨Hst, Hr, Hat, Htok⟩
  imodintro
  ihave Hst := (Entails.of_eq (hX fun g => roundState EX (sched m) g 0)) $$ Hst
  ihave Hat := (Entails.of_eq (hX fun g => atPos EX g 0 ∅ 0)) $$ Hat
  ihave Hr := (Entails.of_eq (hX fun g => reached EX g 0)) $$ Hr
  ihave Htok := (Entails.of_eq hT) $$ Htok
  unfold G; simp only [bigSep_sep']
  isplitl [Hst]; · iexact Hst
  isplitl [Hat Hr]
  · isplitl [Hat]; · iexact Hat
    iexact Hr
  iexact Htok

/-! ## The semaphores at launch -/

/-- The kernel's own semaphores that its transfers use. -/
abbrev osem : Fin 6 → SemLoc sig
  | 0 => .dma (sendS 0) | 1 => .dma (sendS 1) | 2 => .dma (sendS 2) | 3 => .dma (recvS 0) | 4 => .dma (recvS 1) | 5 => .dma (recvS 2)

/-- The kernel's own semaphores are apart from the pipeline's. -/
theorem ownSemFacts : Pipeline.OwnSemFacts cfg0.spec osem := by decide

/-- Device `c`'s own semaphores at zero. -/
abbrev ownZero (c : Dev nD) : sProp 𝕄 := Pipeline.ownSems0 (Ix := Unit) (Name := ℕ) (U := UU) (Lvl := ℕ) (Val := Elt F) (τ := τ) osem c

omit [FloatOps F] in
/-- A device's own semaphores at zero, written out. -/
theorem ownZero_eq (c : Dev nD) : (ownZero c : sProp 𝕄)
    = iprop(semVal (sendCell c 0) 0 ∗ semVal (sendCell c 1) 0 ∗ semVal (sendCell c 2) 0 ∗ semVal (recvCell c 0) 0 ∗ semVal (recvCell c 1) 0 ∗ semVal (recvCell c 2) 0) := by
  unfold ownZero; rw [Pipeline.ownSems0_eq_of_list c osem [0, 1, 2, 3, 4, 5] (by decide) (by decide)]; rfl
omit [FloatOps F] in
/-- A device's barrier at zero. -/
theorem barZero_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- The launch's counters are the seven. -/
theorem sevenZero (c : Dev nD) : iprop(ownZero c ∗ unscopedSems0 c) ⊢ (bigSep Finset.univ fun w : Which => semVal (kcell (c, w)) 0 : sProp 𝕄) := by
  rw [ownZero_eq, barZero_eq, bigSep_which]
  iintro ⟨H, HB⟩
  isplitl [HB]; · iexact HB
  iexact H

omit [FloatOps F] in
/-- At the end they are back, at zero. -/
theorem closed_zero (c : Dev nD) : (closed c : sProp 𝕄) ⊢ iprop(unscopedSems0 c ∗ ownZero c) := by
  rw [ownZero_eq, barZero_eq]; unfold closed; rw [bigSep_three, bigSep_three]
  iintro ⟨HB, ⟨H0, H1, H2⟩, H⟩
  isplitl [HB]; · iexact HB
  isplitl [H0]; · iexact H0
  isplitl [H1]; · iexact H1
  isplitl [H2]; · iexact H2
  iexact H

omit [FloatOps F] in
/-- One device's semaphores put under the schedule. -/
theorem open_cells (c : Dev nD) :
    iprop(ownZero c ∗ unscopedSems0 c ∗ G m c)
      ⊢ |={Set.univ}=> iprop((bigSep Finset.univ fun w : Which => iprop(∃ κ : ℕ, cellInv EX (sched m) κ (kcell (c, w))))
          ∗ ((bigSep Finset.univ fun w : Which => atPos EX (kcell (c, w)) 0 ∅ 0) ∗ bigSep Finset.univ fun w : Which => reached EX (kcell (c, w)) 0)
          ∗ ownToks c) := by
  unfold G
  iintro ⟨Ho, Hu, Hst, Hat, Htok⟩
  ihave Hv := (sevenZero (F := F) c) $$ [Ho Hu]
  · isplitl [Ho]; · iexact Ho
    iexact Hu
  have hopen : iprop((bigSep Finset.univ fun w : Which => semVal (kcell (c, w)) 0) ∗ bigSep Finset.univ fun w : Which => roundState EX (sched m) (kcell (c, w)) 0)
      ⊢ (|={Set.univ}=> bigSep Finset.univ fun w : Which => iprop(∃ κ : ℕ, cellInv EX (sched m) κ (kcell (c, w))) : sProp 𝕄) := by
    rw [← bigSep_sep']
    exact (bigSep_mono fun w _ => (Rounds.body_intro EX (sched m) (kcell (c, w))).trans inv_alloc).trans (bigSep_fupd _ _)
  imod hopen $$ [Hv Hst] with Hinv
  · isplitl [Hv]; · iexact Hv
    iexact Hst
  imodintro
  isplitl [Hinv]; · iexact Hinv
  isplitl [Hat]; · iexact Hat
  iexact Htok

omit [FloatOps F] in
/-- The duties go to the devices that pay them. -/
theorem toks_dealt : (bigSep Finset.univ fun c : Dev nD => (ownToks c : sProp 𝕄)) ⊢ bigSep Finset.univ fun c : Dev nD => payToks c := by
  unfold ownToks payToks
  simp only [bigSep_three, bigSep_sep']
  rw [bigSep_univ_equiv (turn 2) (fun c : Dev nD => (dutyTok EX (barCell c) 0 0 : sProp 𝕄)),
    bigSep_univ_equiv (turn 1) (fun c : Dev nD => (dutyTok EX (barCell c) 0 1 : sProp 𝕄)),
    bigSep_univ_equiv (turn 0) (fun c : Dev nD => (dutyTok EX (barCell c) 0 2 : sProp 𝕄)),
    bigSep_univ_equiv (turn 0) (fun c : Dev nD => (dutyTok EX (recvCell c 0) 0 0 : sProp 𝕄)),
    bigSep_univ_equiv (turn 1) (fun c : Dev nD => (dutyTok EX (recvCell c 1) 0 0 : sProp 𝕄)),
    bigSep_univ_equiv (turn 2) (fun c : Dev nD => (dutyTok EX (recvCell c 2) 0 0 : sProp 𝕄))]
  iintro ⟨⟨B0, B1, B2⟩, HS, HV⟩
  isplitl [B0 B1 B2]
  · isplitl [B2]; · iexact B2
    isplitl [B1]; · iexact B1
    iexact B0
  isplitl [HS]; · iexact HS
  iexact HV

omit [FloatOps F] in
/-- A device's places, from those at its seven semaphores. -/
theorem places_of (c : Dev nD) : (bigSep Finset.univ fun w : Which => (atPos EX (kcell (c, w)) 0 ∅ 0 : sProp 𝕄)) ⊢ places c := by
  unfold places; rw [bigSep_which, bigSep_three, bigSep_three]
  iintro ⟨HB, H0, H1, H2, H⟩
  isplitl [HB]; · iexact HB
  isplitl [H0 H1 H2]
  · isplitl [H0]; · iexact H0
    isplitl [H1]; · iexact H1
    iexact H2
  iexact H

omit [FloatOps F] in
/-- What each device is left with: the records are everyone's, the positions its own, the duties those it pays. -/
theorem ghost_of (K : Dev nD × Which → ℕ) (c : Dev nD) :
    iprop(records m K ∗ ((bigSep Finset.univ fun w : Which => atPos EX (kcell (c, w)) 0 ∅ 0) ∗ payToks c)) ⊢ G' m c := by
  unfold G' ghost
  iintro ⟨HR, Hat, Htok⟩
  iexists K
  isplitl [HR]; · iexact HR
  isplitl [Hat]; · iapply (places_of (F := F) c); iexact Hat
  iexact Htok

omit [FloatOps F] in
/-- A fact that lasts can be given to every member of a product. -/
theorem share_out {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ := by
  refine (sep_mono_left (BI.bigSep_of_persistent S R)).trans ?_
  rw [← bigSep_sep']
  exact bigSep_mono h

omit [FloatOps F] in
/-- The ghost state of all devices, dealt out to each. -/
theorem deal :
    (bigSep Finset.univ fun c : Dev nD => iprop((bigSep Finset.univ fun w : Which => iprop(∃ κ : ℕ, cellInv EX (sched m) κ (kcell (c, w))))
          ∗ ((bigSep Finset.univ fun w : Which => atPos EX (kcell (c, w)) 0 ∅ 0) ∗ bigSep Finset.univ fun w : Which => reached EX (kcell (c, w)) 0)
          ∗ ownToks c) : sProp 𝕄)
      ⊢ bigSep Finset.univ (G' m) := by
  rw [bigSep_sep', bigSep_sep', bigSep_sep', ← bigSep_univ_prod (fun cw : Dev nD × Which => iprop(∃ κ : ℕ, cellInv EX (sched m) κ (kcell cw))),
    ← bigSep_univ_prod (fun cw : Dev nD × Which => (reached EX (kcell cw) 0 : sProp 𝕄))]
  iintro ⟨HI, ⟨Hat, #HR⟩, Htok⟩
  ihave HK := (BI.bigSep_exists_pi Finset.univ (fun (cw : Dev nD × Which) (κ : ℕ) => (cellInv EX (sched m) κ (kcell cw) : sProp 𝕄))) $$ HI
  icases HK with ⟨%K, #HI⟩
  ihave Hp := (toks_dealt (F := F)) $$ Htok
  iapply (share_out (R := records m K) fun c _ => ghost_of m K c)
  isplitr
  · unfold records
    isplitr; · iexact HI
    iexact HR
  · rw [bigSep_sep']
    isplitl [Hat]; · iexact Hat
    iexact Hp

omit [FloatOps F] in
/-- Every device's semaphores put under the schedule at once. -/
theorem open_all : (bigSep Finset.univ fun c : Dev nD => iprop(ownZero c ∗ unscopedSems0 c ∗ G m c) : sProp 𝕄) ⊢ |={Set.univ}=> bigSep Finset.univ (G' m) :=
  ((bigSep_mono fun c _ => open_cells m c).trans (bigSep_fupd _ _)).trans (BI.fupd_mono (deal m))

/-! ## The credit at launch -/

/-- A barrier is no receive semaphore. -/
theorem bar_ne_recv (d c : Dev nD) (k : Fin 3) : barCell d ≠ recvCell c k := fun h => by
  cases csem_injective (a₁ := none) (a₂ := some (true, k)) (congrArg Prod.snd h)

/-- To be `k + 1` places before `c`. -/
theorem fwd_eq_iff (d c : Dev nD) (k : Fin 3) : fwd k d = c ↔ d = fwd k.rev c :=
  ⟨fun h => by rw [← h, fwd_rev_fwd], fun h => by rw [h, fwd_fwd_rev]⟩

/-- What a signal owes to a barrier. -/
theorem tB_bar (d c : Dev nD) (j : Fin 3) : tB d j (barCell c) () = if d = fwd j.rev c then 1 else 0 := by
  unfold tB; rw [tallyAt_apply]
  refine if_congr ⟨fun h => (fwd_eq_iff d c j).mp ?_, fun h => ⟨?_, rfl⟩⟩ rfl rfl
  · exact (congrArg (fun g : GSem nD τ sig => g.1.1) h.1).symm
  · rw [(fwd_eq_iff d c j).mpr h]
/-- A transfer owes nothing to a barrier. -/
theorem tR_bar (d c : Dev nD) (j : Fin 3) : tR d j (barCell c) () = 0 := by
  unfold tR; rw [tallyAt_apply]; exact if_neg fun h => bar_ne_recv c _ j h.1
/-- A signal owes nothing to a receive semaphore. -/
theorem tB_recv (d c : Dev nD) (j k : Fin 3) : tB d j (recvCell c k) () = 0 := by
  unfold tB; rw [tallyAt_apply]; exact if_neg fun h => bar_ne_recv _ c k h.1.symm
/-- What a transfer owes to a receive semaphore. -/
theorem tR_recv (d c : Dev nD) (j k : Fin 3) : tR d j (recvCell c k) () = if j = k then (if d = fwd k.rev c then N else 0) else 0 := by
  unfold tR; rw [tallyAt_apply]
  by_cases hj : j = k
  · subst hj; rw [if_pos rfl]
    refine if_congr ⟨fun h => (fwd_eq_iff d c j).mp ?_, fun h => ⟨?_, rfl⟩⟩ rfl rfl
    · exact (congrArg (fun g : GSem nD τ sig => g.1.1) h.1).symm
    · rw [(fwd_eq_iff d c j).mpr h]
  · rw [if_neg hj]
    refine if_neg fun h => hj ?_
    have h2 := csem_injective (a₁ := some (true, k)) (a₂ := some (true, j)) (congrArg Prod.snd h.1)
    exact (congrArg Prod.snd (Option.some.inj h2)).symm

/-- What a device owes at the start, summand by summand. -/
theorem O₀_apply (d : Dev nD) (g : GSem nD τ sig) :
    O₀ d g () = tR d 2 g () + tR d 1 g () + tR d 0 g () + tB d 2 g () + tB d 1 g () + tB d 0 g () := rfl

/-- What device `d` owes to the barrier of `c`. -/
theorem owed_bar (d c : Dev nD) : O₀ d (barCell c) () = (if d = fwd 0 c then 1 else 0) + (if d = fwd 1 c then 1 else 0) + (if d = fwd 2 c then 1 else 0) := by
  rw [O₀_apply, tR_bar, tR_bar, tR_bar, tB_bar, tB_bar, tB_bar, Nat.zero_add]; rfl
/-- What device `d` owes to a receive semaphore of `c`. -/
theorem owed_recv (d c : Dev nD) (k : Fin 3) : O₀ d (recvCell c k) () = if d = fwd k.rev c then N else 0 := by
  rw [O₀_apply, tB_recv, tB_recv, tB_recv, tR_recv, tR_recv, tR_recv]
  generalize (if d = fwd k.rev c then N else 0) = x
  revert k; intro k; fin_cases k <;> simp

/-- All devices together owe three units to a barrier. -/
theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_)
  rw [Pipeline.launchCredit_owing, Finsupp.single_eq_same, Finset.sum_congr rfl fun d _ => owed_bar d c, Finset.sum_add_distrib, Finset.sum_add_distrib,
    Finset.sum_ite_eq' Finset.univ (fwd 0 c) fun _ => 1, Finset.sum_ite_eq' Finset.univ (fwd 1 c) fun _ => 1, Finset.sum_ite_eq' Finset.univ (fwd 2 c) fun _ => 1,
    if_pos (Finset.mem_univ _), if_pos (Finset.mem_univ _), if_pos (Finset.mem_univ _)]
/-- All devices together owe one block to a receive semaphore. -/
theorem launch_recv (c : Dev nD) (k : Fin 3) :
    tallyOn (recvCell c k) (launchCredit (Pipeline.owing O₀) 0 (recvCell c k)) = (tallyAt (recvCell c k) () N : CellTallies nD τ sig Unit) := by
  unfold tallyAt; refine congrArg _ (Finsupp.ext fun u => ?_)
  rw [Pipeline.launchCredit_owing, Finsupp.single_eq_same, Finset.sum_congr rfl fun d _ => owed_recv d c k,
    Finset.sum_ite_eq' Finset.univ (fwd k.rev c) fun _ => N, if_pos (Finset.mem_univ _)]

omit [FloatOps F] in
/-- The launch's credit for a device is what it waits with. -/
theorem credits_of (c : Dev nD) : (Pipeline.launchCred O₀ c : sProp 𝕄) ⊢ credits c := by
  unfold Pipeline.launchCred credits
  rw [bigSep_univ_at _ (SemLoc.reg barS), launch_bar]
  refine sep_mono_right ?_
  have hinj : Function.Injective fun k : Fin 3 => (SemLoc.dma (recvS k) : SemLoc sig) := fun k k' h =>
    congrArg Prod.snd (Option.some.inj (csem_injective (a₁ := some (true, k)) (a₂ := some (true, k')) h))
  refine (bigSep_subset (t := Finset.univ.map ⟨fun k : Fin 3 => (SemLoc.dma (recvS k) : SemLoc sig), hinj⟩) ?_).trans ?_
  · intro s hs
    obtain ⟨k, -, rfl⟩ := Finset.mem_map.mp hs
    exact Finset.mem_erase.mpr ⟨fun h => (by cases h), Finset.mem_univ _⟩
  · rw [bigSep_map]
    exact bigSep_mono fun k _ => Entails.of_eq (congrArg (cred ·) (launch_recv c k))

end Cert.Exchange

end
-- ==== Proof.Run.lean ====
/-
# The run of the four devices
-/
module

public import proofs.«01_k».proof.Proof.Grid
public import proofs.«01_k».proof.Proof.Deal
public import Idealize.ShloMosaic.Lib.Pipeline.CollectiveSegs
public import Idealize.ShloMosaic.Lib.Quiescent

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- Every window has the whole of its array. -/
theorem share_eq (c : Dev nD) (w : Fin cfg0.W) : (dats m ρ 0 c).share w = fullShare := by unfold Dat.share; split <;> rfl

/-- What the launch gives a device is what its kernel starts from. -/
theorem start_of (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (credits_of (F := F) c) $$ Hcr
  imodintro
  unfold start G'
  isplitl
  · isplitl [HG]; · iexact HG
    isplitl [Hc]; · iexact Hc
    iexact Hlev
  · iempintro

/-- It is what is held before the first point. -/
theorem enter (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = iprop(start m c ∗ (∃ f, ((c : Thread nD τ).loc cc0_scratch0) ↦{fullShare} f) ∗ (∃ f, ((c : Thread nD τ).loc cc0_scratch1) ↦{fullShare} f)) from rfl,
    scopedRest0_eq]
  iintro ⟨Hs, -, Hr⟩
  isplitl [Hs]; · iexact Hs
  iexact Hr

omit [FloatOps F] in
/-- A landed block's slot is a slot at some contents. -/
theorem landed_slot (c : Dev nD) (k : Fin 3) : landed m c k ⊢ (iprop(∃ f, slotPts c k f) : sProp 𝕄) := by
  unfold landed
  iintro ⟨%f, -, H⟩
  iexists f; iexact H

/-- What is held after the last point gives everything back. -/
theorem leave (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = iprop(held m c ∗ slotRest c ∗ closed c) from rfl, scopedRest0_eq]
  unfold held
  iintro ⟨⟨Hx, H0, H1, H2⟩, Hs, Hz⟩
  ihave H0 := (landed_slot m c 0) $$ H0
  ihave H1 := (landed_slot m c 1) $$ H1
  ihave H2 := (landed_slot m c 2) $$ H2
  ihave Hr := (slots_join (F := F) c (m ((c : Thread nD τ).loc cc0_scratch1))) $$ [H0 H1 H2 Hs]
  · isplitl [H0 H1 H2]
    · isplitl [H0]; · iexact H0
      isplitl [H1]; · iexact H1
      iexact H2
    iexact Hs
  ihave Hz := (closed_zero (F := F) c) $$ Hz
  icases Hz with ⟨HB, Ho⟩
  isplitl [HB]; · iexact HB
  isplitl [Ho]; · iexact Ho
  isplitl [Hx]; · iexists (xin m c); iexact Hx
  iexact Hr

/-- A staging buffer's semaphore is at level 0. -/
theorem stage_lv : ∀ (c : Dev nD) (w : Fin 5) (s : Fin ((cfg0.win w).nbuf)), lv ((c : Thread nD τ), .dma ((cfg0.win w).sem s)) () = 0 := by
  decide

/-- The pipeline's own waits come below all that is owed. -/
theorem waits (c : Dev nD) : (levAts L lv : sProp 𝕄) ⊢ Pipeline.cellsWaits cfgs (dats m ρ) () 0 c :=
  Pipeline.cellsWaits_intro cfgs (dats m ρ) () 0 c fun w s t =>
    mayWait_low c _ (by revert c w s; exact stage_lv) _ (by
      by_cases h : t.val = 0
      · exact Or.inl (if_pos h)
      · exact Or.inr (if_neg h))

/-- Every array of device `c` as the run leaves it. -/
def arrays (c : Dev nD) (w : Fin cfg0.W) : Buf (Elt F) ((cfg0.win w).arr.view.loc (c : Thread nD τ)) := (dats m ρ 0 c).arrAt w cfg0.N

set_option maxRecDepth 8000 in
/-- From any memory with every counter at zero, every fair run of the four devices ends, with each device's arrays as
    `arrays` says and every counter at zero. -/
theorem run_main : θ_run defs (onTc (τ := τ) (main (F := F))) (s₀ m ρ) (fun r =>
    (∀ (c : Dev nD) (w : Fin cfg0.W), r.2.mem ((cfg0.win w).arr.view.loc (c : Thread nD τ)) = arrays m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun c => (main_chain c).trans rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m)
    (u₀ := (initOf (Pipeline.cells cfgs cellOf_inj) (Pipeline.launchToks cfgs cellOf_inj), initOf xcells xtoks))
    (hu₀ := by
      iintro Hu
      ihave H := (ownU_pair _ _) $$ Hu
      icases H with ⟨HP, HX⟩
      imod (mint m) $$ HX with HG
      imodintro
      isplitl [HP]; · iexact HP
      iexact HG)
    (hglob := open_all m)
    (hA := fun _ _ => rfl) (hpf := fun _ k => k.elim0)
    (X := start m) (Y := fun c => unscopedSems0 c) (Z := fun _ => iprop(emp))
    (hX := start_of m ρ) (hin := enter m ρ) (hout := leave m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu]; · iexact Hu
      iexact HSI)
    (hQ := fun _ h hs => ⟨fun c w => (h c).1 w, sem_eq_zero hs fun c => (h c).2.2⟩)

/-- The run leaves the four arguments of every device as they were, and every counter at zero. -/
theorem run_frame : θ_run defs (onTc (τ := τ) (main (F := F))) (s₀ m ρ) (fun r =>
    (∀ c : Dev nD, r.2.mem ((c.tc : Thread nD τ).loc main_v1) = arrays m ρ c (4 : Fin 5)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
    ∧ r.2.sem = fun _ => 0) :=
  (θ_run defs _ _).mono (fun _ h => ⟨fun c => ⟨h.1 c (4 : Fin 5),
      (h.1 c (0 : Fin 5)).trans ((dats (F := F) m ρ 0 c).arrAt_in (0 : Fin 5) rfl _),
      (h.1 c (1 : Fin 5)).trans ((dats (F := F) m ρ 0 c).arrAt_in (1 : Fin 5) rfl _),
      (h.1 c (2 : Fin 5)).trans ((dats (F := F) m ρ 0 c).arrAt_in (2 : Fin 5) rfl _),
      (h.1 c (3 : Fin 5)).trans ((dats (F := F) m ρ 0 c).arrAt_in (3 : Fin 5) rfl _)⟩, h.2⟩) (run_main m ρ)

end Cert.Exchange

end
-- ==== Proof.Transfer.lean ====
/-
# The kernel as written and the kernel read at exact arithmetic are one program text
-/
module

public import proofs.«01_k».proof.Kernel
public import proofs.«01_k».proof.Proof.Gen.Kernel
public import proofs.«01_k».proof.Proof.Gen.KernelIdeal

@[expose] public section

noncomputable section

namespace Cert.Exchange

open Idealize.ShloMosaic Idealize.SL.Sem

variable {F : FTy → Type} [FloatOps F]

set_option maxHeartbeats 2000000 in
/-- The two print one body, -/
theorem body_same : Cert.Kernel.cc0_body (F := F) = Cert.KernelIdeal.cc0_body (F := F) := rfl

/-- so one table of bodies, -/
theorem bodies_same : Cert.Kernel.defs₀ (F := F) = Cert.KernelIdeal.defs₀ (F := F) := by
  refine congrArg Defs.onTc (funext fun l => ?_)
  match l with
  | ⟨0, _⟩ => exact funext fun ⟨t, s⟩ => rfl

/-- one table with the pipeline's, -/
theorem defs_same : Cert.Kernel.defs (F := F) = Cert.KernelIdeal.defs (F := F) := congrArg (Pipeline.defs _) bodies_same

/-- and one main program. -/
theorem main_same : Cert.Kernel.main (F := F) = Cert.KernelIdeal.main (F := F) := rfl

/-- What every run of the one ends in, every run of the other does. -/
theorem run_same (s : MemSt Cert.KernelIdeal.nD Cert.KernelIdeal.τ Cert.KernelIdeal.sig (Elt F)) (Q) :
    θ_run (Cert.KernelIdeal.defs (F := F)) (onTc (τ := Cert.KernelIdeal.τ) (Cert.KernelIdeal.main (F := F))) s Q
      → θ_run (Cert.Kernel.defs (F := F)) (onTc (τ := Cert.Kernel.τ) (Cert.Kernel.main (F := F))) s Q :=
  (congrArg (fun d => θ_run d (onTc (τ := Cert.KernelIdeal.τ) (Cert.KernelIdeal.main (F := F))) s Q) defs_same.symm).mp

end Cert.Exchange

end
-- ==== Proof.Silu.lean ====
/-
# The activation over the extended reals
-/
module

public import proofs.«01_k».proof.Proof.Grid
public import Idealize.ShloMosaic.Lib.ValueIdx
public import Idealize.ShloMosaic.Lib.IdealHost
public import Idealize.ShloMosaic.PureOps.Ideal.Laws

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open scoped BigOperators

/-- The activation as the kernel computes it: `y` times one over `1 + exp (-y)`. -/
def act (y : EReal) : EReal := y * Ideal.div 1 (1 + Ideal.exp (0 - y))

/-- An exponential is not negative. -/
theorem exp_nonneg (x : EReal) : 0 ≤ Ideal.exp x := by
  induction x with
  | bot => exact le_rfl
  | top => exact le_top
  | coe r => rw [Ideal.exp_coe]; exact_mod_cast (Real.exp_pos r).le

/-- One more than an exponential is not zero. -/
theorem one_add_exp_ne (x : EReal) : (1 : EReal) + Ideal.exp x ≠ 0 := by
  have h : (1 : EReal) + 0 ≤ 1 + Ideal.exp x := add_le_add_right (exp_nonneg x) 1
  rw [add_zero] at h
  exact (lt_of_lt_of_le zero_lt_one h).ne'

/-- The product with the reciprocal is the quotient. -/
theorem act_eq (y : EReal) : act y = Ideal.div y (1 + Ideal.exp (0 - y)) := by
  unfold act Ideal.div
  rw [if_neg (one_add_exp_ne _), if_neg (one_add_exp_ne _), one_mul]

/-- The words of the two ends of the clip are `60`, -/
theorem word_hi : Ideal.ofBits .f32 0x42700000#32 = ((60 : ℝ) : EReal) := by
  simp [Ideal.ofBits, Ideal.ieee, -EReal.coe_mul]; norm_num
/-- and `-60`. -/
theorem word_lo : Ideal.ofBits .f32 0xC2700000#32 = -((60 : ℝ) : EReal) := by
  rw [← EReal.coe_neg]
  simp [Ideal.ofBits, Ideal.ieee, -EReal.coe_mul, -EReal.coe_neg]; norm_num

/-- Where `|y| ≤ b`, clipping `y` to `-b … b` leaves it. -/
theorem clip_of_le {y b : EReal} (h : max y (-y) ≤ b) : min b (max (-b) y) = y := by
  have h1 : y ≤ b := le_trans (le_max_left _ _) h
  have h2 : -b ≤ y := EReal.neg_le_of_neg_le (le_trans (le_max_right _ _) h)
  rw [max_eq_right h2, min_eq_right h1]

/-- The reference's activation, clipped where `|y| ≤ b` and not clipped elsewhere, is the kernel's. -/
theorem select_act (y b : EReal) :
    Scalar.select (Ideal.cmp .ole (max y (-y)) b) (Ideal.div y (1 + Ideal.exp (0 - min b (max (-b) y)))) (Ideal.div y (1 + Ideal.exp (0 - y)))
      = act y := by
  rw [act_eq]
  by_cases h : max y (-y) ≤ b
  · rw [clip_of_le h]
    unfold Scalar.select
    split <;> rfl
  · have : Ideal.cmp .ole (max y (-y)) b = 0#1 := by
      unfold Ideal.cmp
      simp [h]
    rw [this]; rfl

end Cert.Exchange

end
-- ==== Proof.TileValue.lean ====
/-
# What one tile holds, entry by entry
-/
module

public import proofs.«01_k».proof.Proof.Silu
public import Idealize.ShloMosaic.Lib.MatmulPlain
public import Idealize.ShloMosaic.Lib.Pipeline.Value

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open scoped BigOperators

variable (m : (ℓ : Loc nD τ sig) → Buf (Elt Ideal) ℓ) (ρ : Dev nD → PrngReg)

/-- The kernel's dot takes a sum over one coordinate. -/
theorem dot_at (x : FVec Ideal S1024x1024 .fp8e5m2) (w : FVec Ideal S1024x512 .fp8e5m2) (r : Fin 1024) (l : Fin 512) :
    matmul dot_S1024x1024_S1024x512_S1024x512_1_0_0_1_n_n none x w (constant S1024x512 .f32 0x00000000#32) (ix2 r l)
      = ∑ k : Fin 1024, x (ix2 r k) * w (ix2 k l) := by
  have h : dot_S1024x1024_S1024x512_S1024x512_1_0_0_1_n_n = DotDims.plain 1024 1024 512 := rfl
  refine (congrArg (fun d => FloatOps.matmul d none x w (constant S1024x512 .f32 0x00000000#32) (ix2 r l)) h).trans ?_
  refine (Ideal.matmul_plain_apply none x w _ r l).trans ?_
  rw [constant_apply, Ideal.ofBits_zero_f32, zero_add]

/-- A cast to the same shape changes nothing. -/
theorem cast_self (v : Vec Ideal S1024x512 .fp8e5m2) : shapeCast S1024x512 v shapeCasts_S1024x512_S1024x512 = v :=
  funext fun j => congrArg v (Shape.reshapeEquiv_self _ j)

/-- The exponential of an array is taken entry by entry. -/
theorem exp_at {s : Shape} (v : FVec Ideal s .f32) (i : s.Idx) : exp v i = Ideal.exp (v i) := rfl

/-- A block behind a leading axis of one, without it, is the block. -/
theorem cast_unsq (b : Vec Ideal S1024x1024 .fp8e5m2) :
    shapeCast S1024x1024 (unsq b) shapeCasts_S1x1024x1024_S1024x1024 = b :=
  funext fun j => congrArg b (Equiv.symm_apply_apply _ j)

/-- One block's product, added to what is already summed. -/
theorem pay4_eq (v : FVec Ideal S1024x512 .f32) (b : Vec Ideal S1024x1024 .fp8e5m2) (w : Vec Ideal S1024x512 .fp8e5m2) :
    k0_pay4 v (unsq b) w
      = addf v (matmul (φ₁ := .fp8e5m2) (φ₂ := .fp8e5m2) dot_S1024x1024_S1024x512_S1024x512_1_0_0_1_n_n none b w (constant S1024x512 .f32 0x00000000#32)) :=
  congrArg₂ (fun (b : FVec Ideal S1024x1024 .fp8e5m2) (w : FVec Ideal S1024x512 .fp8e5m2) =>
    addf v (matmul dot_S1024x1024_S1024x512_S1024x512_1_0_0_1_n_n none b w (constant S1024x512 .f32 0x00000000#32))) (cast_unsq b) (cast_self w)

/-- The product of the device's own block, and of the first one received. -/
theorem pay3_eq (a b : Vec Ideal S1024x1024 .fp8e5m2) (v w : Vec Ideal S1024x512 .fp8e5m2) :
    k0_pay3 a v (unsq b) w
      = addf (matmul (φ₁ := .fp8e5m2) (φ₂ := .fp8e5m2) dot_S1024x1024_S1024x512_S1024x512_1_0_0_1_n_n none a v (constant S1024x512 .f32 0x00000000#32))
          (matmul (φ₁ := .fp8e5m2) (φ₂ := .fp8e5m2) dot_S1024x1024_S1024x512_S1024x512_1_0_0_1_n_n none b w (constant S1024x512 .f32 0x00000000#32)) :=
  (pay4_eq _ b w).trans (congrArg (fun v : FVec Ideal S1024x512 .fp8e5m2 =>
    addf (matmul (φ₁ := .fp8e5m2) dot_S1024x1024_S1024x512_S1024x512_1_0_0_1_n_n none a v (constant S1024x512 .f32 0x00000000#32)) _) (cast_self v))

/-- The last block received, without its leading axis. -/
theorem pay5_eq (b : Vec Ideal S1024x1024 .fp8e5m2) : k0_pay5 (unsq b) = b := cast_unsq b
/-- The rows it is multiplied with, unchanged. -/
theorem pay6_eq (w : Vec Ideal S1024x512 .fp8e5m2) : k0_pay6 w = w := cast_self w

/-- Device `d`'s share of the product at an entry of the tile. -/
def share (c d : Dev nD) (w : Vec Ideal S4096x512 .fp8e5m2) (r : Fin 1024) (l : Fin 512) : EReal :=
  ∑ k : Fin 1024, xblk m d c (ix2 r k) * wrows w d (ix2 k l)

/-- A tile's entry: the activation of the four devices' shares, scaled. -/
theorem tile_at (c : Dev nD) (w : Vec Ideal S4096x512 .fp8e5m2) (s t : Vec Ideal S1 .f32) (r : Fin 1024) (l : Fin 512) :
    tile m c w s t (ix2 r l)
      = act ((share m c c w r l + share m c (fwd (Fin.rev 0) c) w r l + share m c (fwd (Fin.rev 1) c) w r l
          + share m c (fwd (Fin.rev 2) c) w r l) * (scal s * scal t)) := by
  unfold tile
  rw [pay3_eq, pay4_eq, pay5_eq, pay6_eq]
  unfold k0_pay1
  simp only [mulf_apply, addf_apply, subf_apply, divf_apply, broadcast_apply, exp_at, dot_at, Ideal.ofBits_def, Ideal.ofBits_one_f32, Ideal.ofBits_zero_f32]
  rfl

/-- The four devices, from `c` backwards, are all of them. -/
theorem sum_devices (f : Dev nD → EReal) (c : Dev nD) :
    f c + f (fwd (Fin.rev 0) c) + f (fwd (Fin.rev 1) c) + f (fwd (Fin.rev 2) c) = ∑ d : Dev nD, f d := by
  rw [show (∑ d : Dev nD, f d) = f 0 + f 1 + f 2 + f 3 from Fin.sum_univ_four f]
  match c with
  | 0 => show f 0 + f 3 + f 2 + f 1 = _; abel
  | 1 => show f 1 + f 0 + f 3 + f 2 = _; abel
  | 2 => show f 2 + f 1 + f 0 + f 3 = _; abel
  | 3 => show f 3 + f 2 + f 1 + f 0 = _; abel

end Cert.Exchange

end
-- ==== Proof.ArrayValue.lean ====
/-
# What the result's array holds on each device after a run
-/
module

public import proofs.«01_k».proof.Proof.TileValue
public import proofs.«01_k».proof.Proof.Run

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open scoped BigOperators

variable (m : (ℓ : Loc nD τ sig) → Buf (Elt Ideal) ℓ) (ρ : Dev nD → PrngReg)

/-- Device `c`'s arguments. -/
abbrev argX (c : Dev nD) : Vec Ideal S4096x1024 .fp8e5m2 := m ((c.tc : Thread nD τ).loc main_arg0)
/-- Its right matrix. -/
abbrev argW (c : Dev nD) : Vec Ideal S4096x8192 .fp8e5m2 := m ((c.tc : Thread nD τ).loc main_arg1)
/-- Its first scale. -/
abbrev argS (c : Dev nD) : Vec Ideal S1 .f32 := m ((c.tc : Thread nD τ).loc main_arg2)
/-- Its second scale. -/
abbrev argT (c : Dev nD) : Vec Ideal S1 .f32 := m ((c.tc : Thread nD τ).loc main_arg3)

/-- Row (or column) `k` of device `d`'s part of a dimension of 4096. -/
def ofDev (d : Dev nD) (k : Fin 1024) : Fin 4096 := ⟨1024 * d.val + k.val, by have h : d.val < 4 := d.isLt; have := k.isLt; omega⟩
/-- Column `l` of tile `t` of a dimension of 8192. -/
def ofTile (t : Fin 16) (l : Fin 512) : Fin 8192 := ⟨512 * t.val + l.val, by have := t.isLt; have := l.isLt; omega⟩

/-- Device `c`'s rows of the result: the activation of the product summed over the devices' columns, scaled. -/
def out (c : Dev nD) : Vec Ideal S1024x8192 .f32 := fun i =>
  act ((∑ d : Dev nD, ∑ k : Fin 1024, argX m d (ix2 (ofDev c (i 0)) k) * argW m c (ix2 (ofDev d k) (i 1)))
    * (argS m c (ix1 0) * argT m c (ix1 0)))

/-! ## The windows' blocks -/

/-- The block of the left matrix is the first, at every point. -/
theorem index_0 : win0_0.index t0_0 (0 : Fin 2) = 0 ∧ win0_0.index t0_0 (1 : Fin 2) = 0 := by decide +kernel
/-- Point `t` reads the right matrix's column block `t`. -/
theorem index_1 : ∀ t : Fin cfg0.N, win0_1.index t (0 : Fin 2) = 0 ∧ win0_1.index t (1 : Fin 2) = t.val :=
  (by decide +kernel : ∀ t : Fin grid0.N, _)
/-- The first scale is one block. -/
theorem index_2 : ∀ t : Fin cfg0.N, win0_2.index t (0 : Fin 1) = 0 := (by decide +kernel : ∀ t : Fin grid0.N, _)
/-- The second scale is one block. -/
theorem index_3 : ∀ t : Fin cfg0.N, win0_3.index t (0 : Fin 1) = 0 := (by decide +kernel : ∀ t : Fin grid0.N, _)
/-- Point `t` writes the result's column block `t`. -/
theorem index_4 : ∀ t : Fin cfg0.N, win0_4.index t (0 : Fin 2) = 0 ∧ win0_4.index t (1 : Fin 2) = t.val :=
  (by decide +kernel : ∀ t : Fin grid0.N, _)

/-- The rows for device `d` in device `p`'s columns are rows of `p`'s argument. -/
theorem xblk_at (p d : Dev nD) (r k : Fin 1024) : xblk m p d (ix2 r k) = argX m p (ix2 (ofDev d r) k) := by
  obtain ⟨e0, e1⟩ := index_0
  show argX m p (((cfg0.win 0).blk t0_0).view.emb ((rowM d).view.emb (ix2 r k))) = _
  refine congrArg (argX m p) (funext fun a => Fin.ext ?_)
  match a with
  | ⟨0, _⟩ => show win0_0.index t0_0 (0 : Fin 2) * 4096 + 1 * (1024 * d.val + 1 * r.val) = 1024 * d.val + r.val; omega
  | ⟨1, _⟩ => show win0_0.index t0_0 (1 : Fin 2) * 1024 + 1 * (0 + 1 * k.val) = k.val; omega

/-- The rows for device `d` of tile `t` of the right matrix are entries of the argument. -/
theorem wrows_at (c d : Dev nD) (t : Fin cfg0.N) (k : Fin 1024) (l : Fin 512) :
    wrows (iblk m c (1 : Fin 5) t) d (ix2 k l) = argW m c (ix2 (ofDev d k) (ofTile t l)) := by
  obtain ⟨e0, e1⟩ := index_1 t
  show argW m c (((cfg0.win 1).blk t).view.emb ((wrowR d).idx (ix2 k l))) = _
  refine congrArg (argW m c) (funext fun a => Fin.ext ?_)
  match a with
  | ⟨0, _⟩ => show win0_1.index t (0 : Fin 2) * 4096 + 1 * (1024 * d.val + 1 * k.val) = 1024 * d.val + k.val; omega
  | ⟨1, _⟩ => show win0_1.index t (1 : Fin 2) * 512 + 1 * (0 + 1 * l.val) = 512 * t.val + l.val; omega

/-- The first scale as a point reads it is the argument. -/
theorem scal_2 (c : Dev nD) (t : Fin cfg0.N) : scal (iblk m c (2 : Fin 5) t) = argS m c (ix1 0) := by
  refine congrArg (argS m c) (funext fun a => ?_)
  match a with
  | ⟨0, _⟩ => exact Subsingleton.elim (α := Fin 1) _ _
/-- The second scale as a point reads it is the argument. -/
theorem scal_3 (c : Dev nD) (t : Fin cfg0.N) : scal (iblk m c (3 : Fin 5) t) = argT m c (ix1 0) := by
  refine congrArg (argT m c) (funext fun a => ?_)
  match a with
  | ⟨0, _⟩ => exact Subsingleton.elim (α := Fin 1) _ _

/-- Where entry `(r, l)` of the result's tile `t` lies in the array. -/
theorem emb_4 (t : Fin cfg0.N) (r : Fin 1024) (l : Fin 512) :
    ((cfg0.win 4).blk t).view.emb (ix2 r l) = (ix2 r (ofTile t l) : S1024x8192.Idx) := by
  obtain ⟨e0, e1⟩ := index_4 t
  refine funext fun a => Fin.ext ?_
  match a with
  | ⟨0, _⟩ => show win0_4.index t (0 : Fin 2) * 1024 + 1 * r.val = r.val; omega
  | ⟨1, _⟩ => show win0_4.index t (1 : Fin 2) * 512 + 1 * l.val = 512 * t.val + l.val; omega

/-! ## The array -/

/-- The tile computed at a point is the point's block of `out`. -/
theorem outTile_at (c : Dev nD) (t : Fin cfg0.N) (r : Fin 1024) (l : Fin 512) :
    outTile m c t (ix2 r l) = out m c (ix2 r (ofTile t l)) := by
  unfold outTile
  rw [tile_at, scal_2, scal_3, sum_devices (fun d => share m c d (iblk m c (1 : Fin 5) t) r l) c]
  refine congrArg (fun y => act (y * _)) (Finset.sum_congr rfl fun d _ => ?_)
  unfold share
  exact Finset.sum_congr rfl fun k _ => by rw [xblk_at, wrows_at]

/-- What a point writes back is its block of `out`. -/
theorem flushed_out (c : Dev nD) (t : Fin cfg0.N) :
    (dats m ρ 0 c).flushed (4 : Fin 5) t = ((cfg0.win (4 : Fin 5)).blk t).view.read (Elt Ideal) (out m c) := by
  funext j
  have hj : (j : S1024x512.Idx) = ix2 (j 0) (j 1) := eq_ix2 (n0 := 1024) (n1 := 512) j
  show outTile m c t j = out m c (((cfg0.win 4).blk t).view.emb j)
  rw [hj]
  exact (outTile_at m c t (j 0) (j 1)).trans (congrArg (out m c) (emb_4 t (j 0) (j 1)).symm)

/-- Every entry of the array is in some point's block. -/
theorem covered_out (i : S1024x8192.Idx) :
    ∃ t : Fin cfg0.N, (cfg0.win (4 : Fin 5)).flush t = true ∧ i ∈ ((cfg0.win (4 : Fin 5)).blk t).view.set := by
  have h0 : (i 0).val < 1024 := idx2_lt0 i
  have h1 : (i 1).val < 8192 := idx2_lt1 i
  let t : Fin cfg0.N := (⟨(i 1).val / 512, by omega⟩ : Fin 16)
  let l : Fin 512 := ⟨(i 1).val % 512, Nat.mod_lt _ (by decide)⟩
  refine ⟨t, flush0_4 t, ?_⟩
  have h := ((cfg0.win (4 : Fin 5)).blk t).view.emb_mem_set (ix2 (⟨(i 0).val, h0⟩ : Fin 1024) l)
  have e : ((cfg0.win 4).blk t).view.emb (ix2 (⟨(i 0).val, h0⟩ : Fin 1024) l) = i := by
    rw [emb_4]
    refine funext fun a => Fin.ext ?_
    match a with
    | ⟨0, _⟩ => rfl
    | ⟨1, _⟩ => show 512 * ((i 1).val / 512) + (i 1).val % 512 = (i 1).val; omega
  exact e ▸ h

/-- After the run the result's array on device `c` holds `out`. -/
theorem arrays_out (c : Dev nD) : arrays m ρ c (4 : Fin 5) = out m c :=
  (dats m ρ 0 c).arrAt_eq_of_cover (4 : Fin 5) (out m c) (fun t _ => flushed_out m ρ c t) covered_out

end Cert.Exchange

end
-- ==== Proof.RefValue.lean ====
/-
# What the reference computes, entry by entry
-/
module

public import proofs.«01_k».proof.Proof.Silu
public import proofs.«01_k».proof.Proof.Gen.ReferenceIdeal.Value
public import Idealize.ShloMosaic.Lib.MatmulPlain
public import Idealize.ShloMosaic.Lib.Pipeline.Value

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open scoped BigOperators

/-- The scale as the reference spreads it over the array. -/
theorem spread_at (v : FVec Ideal S1 .f32) (r : Fin 4096) (l : Fin 8192) :
    broadcastTo Cert.ReferenceIdeal.S4096x8192 (shapeCast Cert.ReferenceIdeal.S1x1 v Cert.ReferenceIdeal.Facts₀.shapeCasts_S1_S1x1)
      Cert.ReferenceIdeal.Facts₀.broadcasts_S1x1_S4096x8192 (ix2 r l) = v (ix1 0) := by
  refine congrArg v (funext fun a => ?_)
  match a with
  | ⟨0, _⟩ => exact Subsingleton.elim (α := Fin 1) _ _

/-- The reference's product is a sum over one coordinate. -/
theorem refDot_at (x : FVec Ideal Cert.ReferenceIdeal.S4096x4096 .f32) (w : FVec Ideal S4096x8192 .f32) (r : Fin 4096) (l : Fin 8192) :
    matmul Cert.ReferenceIdeal.dot_S4096x4096_S4096x8192_S4096x8192_1_0_0_1_n_n none x w (constant S4096x8192 .f32 0x00000000#32) (ix2 r l)
      = ∑ k : Fin 4096, x (ix2 r k) * w (ix2 k l) := by
  have h : Cert.ReferenceIdeal.dot_S4096x4096_S4096x8192_S4096x8192_1_0_0_1_n_n = DotDims.plain 4096 4096 8192 := rfl
  refine (congrArg (fun d => FloatOps.matmul d none x w (constant S4096x8192 .f32 0x00000000#32) (ix2 r l)) h).trans ?_
  refine (Ideal.matmul_plain_apply none x w _ r l).trans ?_
  rw [constant_apply, Ideal.ofBits_zero_f32, zero_add]

/-- The scaled product, before the activation. -/
def refProd (x : Vec Ideal Cert.ReferenceIdeal.S4096x4096 .fp8e5m2) (w : Vec Ideal S4096x8192 .fp8e5m2) (s t : Vec Ideal S1 .f32) :
    FVec Ideal S4096x8192 .f32 :=
  mulf (matmul (φ₁ := .f32) (φ₂ := .f32) Cert.ReferenceIdeal.dot_S4096x4096_S4096x8192_S4096x8192_1_0_0_1_n_n none
      (extf .f32 (φ := .fp8e5m2) x Cert.ReferenceIdeal.Facts₀.bitsLt_fp8e5m2_f32) (extf .f32 (φ := .fp8e5m2) w Cert.ReferenceIdeal.Facts₀.bitsLt_fp8e5m2_f32)
      (constant S4096x8192 .f32 0x00000000#32))
    (broadcastTo Cert.ReferenceIdeal.S4096x8192 (shapeCast Cert.ReferenceIdeal.S1x1 (mulf (φ := .f32) s t) Cert.ReferenceIdeal.Facts₀.shapeCasts_S1_S1x1)
      Cert.ReferenceIdeal.Facts₀.broadcasts_S1x1_S4096x8192)

/-- An entry of it. -/
theorem refProd_at (x : Vec Ideal Cert.ReferenceIdeal.S4096x4096 .fp8e5m2) (w : Vec Ideal S4096x8192 .fp8e5m2) (s t : Vec Ideal S1 .f32)
    (r : Fin 4096) (l : Fin 8192) :
    refProd x w s t (ix2 r l) = (∑ k : Fin 4096, x (ix2 r k) * w (ix2 k l)) * (s (ix1 0) * t (ix1 0)) := by
  unfold refProd
  rw [mulf_apply, refDot_at, spread_at]
  rfl

/-- The reference's entry: the activation of the scaled product. -/
theorem ref_at (x : Vec Ideal Cert.ReferenceIdeal.S4096x4096 .fp8e5m2) (w : Vec Ideal S4096x8192 .fp8e5m2) (s t : Vec Ideal S1 .f32)
    (r : Fin 4096) (l : Fin 8192) :
    Cert.ReferenceIdeal.Gen.k0_pay1 x w s t (ix2 r l) = act ((∑ k : Fin 4096, x (ix2 r k) * w (ix2 k l)) * (s (ix1 0) * t (ix1 0))) := by
  rw [← refProd_at, ← select_act _ (Ideal.ofBits .f32 0x42700000#32), ← Ideal.ofBits_one_f32, ← Ideal.ofBits_zero_f32, word_hi, ← word_lo, ← word_hi]
  rfl

end Cert.Exchange

end
-- ==== Proof.Equation.lean ====
/-
# The kernel's array is the reference's, cut into the devices' rows
-/
module

public import proofs.«01_k».proof.Proof.ArrayValue
public import proofs.«01_k».proof.Proof.RefValue
public import Idealize.ShloMosaic.Lib.Layout

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open scoped BigOperators

variable (m : (ℓ : Loc nD τ sig) → Buf (Elt Ideal) ℓ)

/-- A sum over 4096 is the sum over the devices of the sums over their parts. -/
theorem sum_parts (f : Fin 4096 → EReal) : ∑ k : Fin 4096, f k = ∑ d : Dev nD, ∑ k : Fin 1024, f (ofDev d k) := by
  rw [← Fintype.sum_prod_type' (f := fun (d : Fin 4) (k : Fin 1024) => f (ofDev d k))]
  refine (Equiv.sum_comp (finProdFinEquiv (m := 4) (n := 1024)) f).symm.trans ?_
  refine Finset.sum_congr rfl fun p _ => congrArg f (Fin.ext ?_)
  show p.2.val + 1024 * p.1.val = 1024 * p.1.val + p.2.val
  omega

variable (x : Vec Ideal Cert.ReferenceIdeal.S4096x4096 .fp8e5m2) (w : Vec Ideal S4096x8192 .fp8e5m2) (s t : Vec Ideal S1 .f32)

/-- Where every device holds its columns of `x`, and `w`, `s` and `t` whole, its rows of the result are the reference's. -/
theorem out_eq (hx : ∀ c, argX m c = Layout.block ⟨2, ![4096, 1024]⟩ ⟨2, ![4096, 4096]⟩ 1 4 c x) (hw : ∀ c, argW m c = w)
    (hs : ∀ c, argS m c = s) (ht : ∀ c, argT m c = t) (c : Dev nD) :
    out m c = Layout.block ⟨2, ![1024, 8192]⟩ ⟨2, ![4096, 8192]⟩ 0 4 c (Cert.ReferenceIdeal.Gen.k0_pay1 x w s t) := by
  funext i
  have hcut : Layout.Tiles ⟨2, ![1024, 8192]⟩ ⟨2, ![4096, 8192]⟩ 0 4 := by decide
  have hi : hcut.idx c i = ix2 (ofDev c (i 0)) (i 1) := by
    refine funext fun a => Fin.ext ?_
    match a with
    | ⟨0, _⟩ => show c.val * 1024 + (i 0).val = 1024 * c.val + (i 0).val; omega
    | ⟨1, _⟩ => rfl
  refine Eq.trans ?_ (((congrArg (Cert.ReferenceIdeal.Gen.k0_pay1 x w s t) hi).trans (ref_at x w s t (ofDev c (i 0)) (i 1))).symm)
  rw [sum_parts]
  unfold out
  rw [hw, hs, ht]
  refine congrArg (fun y => act (y * _)) (Finset.sum_congr rfl fun d _ => Finset.sum_congr rfl fun k _ => ?_)
  rw [hx]
  refine congrArg (fun j => x j * _) (funext fun a => Fin.ext ?_)
  match a with
  | ⟨0, _⟩ => rfl
  | ⟨1, _⟩ => show d.val * 1024 + k.val = 1024 * d.val + k.val; omega

end Cert.Exchange

end
-- ==== Proof.lean ====
/-
# The claims about the kernel, assembled

Each of the four devices holds 1024 columns of `x` and the whole of `w`; it sends every other device the rows that device needs,
and multiplies what it received with the matching rows of `w`. Both runs of the kernel come from one run over any float values
(`Cert.Exchange.run_frame`); its value is that of the reference, cut into the devices' rows (`Cert.Exchange.out_eq`).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Run
public import proofs.«01_k».proof.Proof.Transfer
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The kernel as written runs on the four devices, its arguments end unchanged and every counter ends at zero. -/
theorem frame_kernel : Cert.quiescent_Kernel := fun m ρ _ =>
  Cert.Exchange.run_same _ _
    ((θ_run Cert.KernelIdeal.defs _ _).mono (fun _ h => ⟨fun c => (h.1 c).2, h.2⟩) (Cert.Exchange.run_frame (F := Bits) m ρ))

/-- The same of the kernel read at exact arithmetic. -/
theorem frame_ideal : Cert.quiescent_KernelIdeal := fun m ρ _ =>
  (θ_run Cert.KernelIdeal.defs _ _).mono (fun _ h => ⟨fun c => (h.1 c).2, h.2⟩) (Cert.Exchange.run_frame (F := Ideal) m ρ)

/-- The same of the reference on its one device. -/
theorem frame_reference : Cert.quiescent_ReferenceIdeal := fun m ρ _ => Cert.ReferenceIdeal.Gen.frame m ρ

/-- From arrays cut as the claim says, the devices' results are the reference's result cut into their rows. -/
theorem value : Cert.algebraic_KernelIdeal_ReferenceIdeal := fun m ρ m' ρ' _ hm => by
  refine ⟨Cert.ReferenceIdeal.Value.G4 (m' ((Dev.tc (0 : Dev Cert.ReferenceIdeal.nD)).loc Cert.ReferenceIdeal.main_arg0)) (m' ((Dev.tc (0 : Dev Cert.ReferenceIdeal.nD)).loc Cert.ReferenceIdeal.main_arg1))
      (m' ((Dev.tc (0 : Dev Cert.ReferenceIdeal.nD)).loc Cert.ReferenceIdeal.main_arg2)) (m' ((Dev.tc (0 : Dev Cert.ReferenceIdeal.nD)).loc Cert.ReferenceIdeal.main_arg3)), ?_,
    (θ_run Cert.ReferenceIdeal.defs _ _).mono (fun _ h => h 0) (Cert.ReferenceIdeal.Value.run (F := Ideal) m' ρ')⟩
  refine (θ_run Cert.KernelIdeal.defs _ _).mono (fun _ h c => ⟨(h.1 c).1.trans ?_, (h.1 c).2⟩) (Cert.Exchange.run_frame (F := Ideal) m ρ)
  exact (Cert.Exchange.arrays_out m ρ c).trans
    (Cert.Exchange.out_eq m _ _ _ _ (fun c => (hm c).1) (fun c => (hm c).2.1) (fun c => (hm c).2.2.1) (fun c => (hm c).2.2.2) c)

/-- All five claims. -/
theorem claim : Cert.Claim := ⟨Cert.Kernel.Gen.facts, Cert.KernelIdeal.Gen.facts, Cert.ReferenceIdeal.Gen.facts,
  frame_kernel, frame_ideal, frame_reference, trivial, value⟩

end Cert.Proof

end
